-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_on_positive_norm [hKernelIdeal : Cert.KernelIdeal.Facts] [hReferenceIdeal : Cert.ReferenceIdeal.Facts] [hOn_positive_norm : Cert.On_positive_norm.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 2048]⟩ : Shape).Idx, (Cert.On_positive_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v4_0) i = v0 c i)
          ∧ (∀ i : (⟨2, ![2048, 8]⟩ : Shape).Idx, (Cert.On_positive_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v4_1) i = v1 c i)
          ∧ (∀ i : (⟨2, ![8, 5632]⟩ : Shape).Idx, (Cert.On_positive_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.KernelIdeal.nD Cert.KernelIdeal.τ).loc Cert.KernelIdeal.main_v4_2) i = v2 c i)
          ∧ (∀ i : (⟨2, ![1, 5632]⟩ : Shape).Idx, (Cert.On_positive_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 i = 1#1 → r.2.mem ((c.tc : Thread Cert.KernelIdeal.nD Cert.KernelIdeal.τ).loc Cert.KernelIdeal.main_v4_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1024, 2048]⟩ : Shape).Idx, (Cert.On_positive_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v5_0) i = v0 c i)
          ∧ (∀ i : (⟨2, ![2048, 8]⟩ : Shape).Idx, (Cert.On_positive_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v5_1) i = v1 c i)
          ∧ (∀ i : (⟨2, ![8, 5632]⟩ : Shape).Idx, (Cert.On_positive_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.ReferenceIdeal.nD Cert.ReferenceIdeal.τ).loc Cert.ReferenceIdeal.main_v5_2) i = v2 c i)
          ∧ (∀ i : (⟨2, ![1, 5632]⟩ : Shape).Idx, (Cert.On_positive_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 i = 1#1 → r.2.mem ((c.tc : Thread Cert.ReferenceIdeal.nD Cert.ReferenceIdeal.τ).loc Cert.ReferenceIdeal.main_v5_3) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hOn_positive_norm : Cert.On_positive_norm.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_positive_norm (hKernelIdeal := hKernelIdeal) (hReferenceIdeal := hReferenceIdeal) (hOn_positive_norm := hOn_positive_norm)
-- ==== On_positive_norm.lean ====
abbrev S4x256x5632 : Shape := ⟨3, ![4, 256, 5632]⟩
abbrev S4x256x2048 : Shape := ⟨3, ![4, 256, 2048]⟩
abbrev S4x256 : Shape := ⟨2, ![4, 256]⟩
abbrev S1024x5632 : Shape := ⟨2, ![1024, 5632]⟩
abbrev S16x5632 : Shape := ⟨2, ![16, 5632]⟩
abbrev S2048x8 : Shape := ⟨2, ![2048, 8]⟩
abbrev S8x5632 : Shape := ⟨2, ![8, 5632]⟩
abbrev S5632 : Shape := ⟨1, ![5632]⟩
abbrev S_ : Shape := ⟨0, ![]⟩
abbrev S1024x2048 : Shape := ⟨2, ![1024, 2048]⟩
abbrev S1x5632 : Shape := ⟨2, ![1, 5632]⟩

class Facts : Prop where
  bcast_S_S1024x2048 : S_.BroadcastsInDim S1024x2048 (![] : Fin 0 → Fin S1024x2048.rank)
  bcast_S_S2048x8 : S_.BroadcastsInDim S2048x8 (![] : Fin 0 → Fin S2048x8.rank)
  bcast_S_S8x5632 : S_.BroadcastsInDim S8x5632 (![] : Fin 0 → Fin S8x5632.rank)
  bcast_S_S5632 : S_.BroadcastsInDim S5632 (![] : Fin 0 → Fin S5632.rank)
  shapeCasts_S5632_S1x5632 : S5632.ShapeCasts S1x5632

variable [Facts]

def fn {F : FTy → Type} [FloatOps F] (main_arg0 : FVec F S4x256x5632 .bf16) (main_arg1 : FVec F S4x256x2048 .fp8e4m3) (main_arg2 : FVec F S4x256 .f32) (main_arg3 : IVec S1024x5632 8) (main_arg4 : FVec F S16x5632 .bf16) (main_arg5 : FVec F S2048x8 .bf16) (main_arg6 : FVec F S8x5632 .bf16) (main_arg7 : FVec F S5632 .f32) (main_arg8 : FVec F S5632 .f32) : IVec S1024x2048 1 × IVec S2048x8 1 × IVec S8x5632 1 × IVec S1x5632 1 :=
  let main_c : IVec S_ 1 := constantI S_ 1 1#1
  let main_v0 : IVec S1024x2048 1 := broadcastInDim S1024x2048 ![] bcast_S_S1024x2048 main_c
  let main_c_0 : IVec S_ 1 := constantI S_ 1 1#1
  let main_v1 : IVec S2048x8 1 := broadcastInDim S2048x8 ![] bcast_S_S2048x8 main_c_0
  let main_c_1 : IVec S_ 1 := constantI S_ 1 1#1
  let main_v2 : IVec S8x5632 1 := broadcastInDim S8x5632 ![] bcast_S_S8x5632 main_c_1
  let main_cst : FVec F S_ .f32 := constant S_ .f32 0x00000000#32
  let main_v3 : FVec F S5632 .f32 := broadcastInDim S5632 ![] bcast_S_S5632 main_cst
  let main_v4 : IVec S5632 1 := cmpf .ogt main_arg8 main_v3
  let main_v5 : IVec S1x5632 1 := shapeCast S1x5632 main_v4 shapeCasts_S5632_S1x5632
  (main_v0, main_v1, main_v2, main_v5)
-- ==== Kernel.lean ====
abbrev S4x256x5632 : Shape := ⟨3, ![4, 256, 5632]⟩
abbrev S4x256x2048 : Shape := ⟨3, ![4, 256, 2048]⟩
abbrev S4x256 : Shape := ⟨2, ![4, 256]⟩
abbrev S1024x5632 : Shape := ⟨2, ![1024, 5632]⟩
abbrev S16x5632 : Shape := ⟨2, ![16, 5632]⟩
abbrev S2048x8 : Shape := ⟨2, ![2048, 8]⟩
abbrev S8x5632 : Shape := ⟨2, ![8, 5632]⟩
abbrev S5632 : Shape := ⟨1, ![5632]⟩
abbrev S1024x2048 : Shape := ⟨2, ![1024, 2048]⟩
abbrev S1x5632 : Shape := ⟨2, ![1, 5632]⟩
abbrev S1024x512 : Shape := ⟨2, ![1024, 512]⟩
abbrev S16x512 : Shape := ⟨2, ![16, 512]⟩
abbrev S8x512 : Shape := ⟨2, ![8, 512]⟩
abbrev S1x512 : Shape := ⟨2, ![1, 512]⟩
abbrev S8x1024 : Shape := ⟨2, ![8, 1024]⟩
abbrev S1024x128 : Shape := ⟨2, ![1024, 128]⟩
abbrev S2048x512 : Shape := ⟨2, ![2048, 512]⟩
abbrev S1x128 : Shape := ⟨2, ![1, 128]⟩
abbrev S128x128 : Shape := ⟨2, ![128, 128]⟩
abbrev S1024x8 : Shape := ⟨2, ![1024, 8]⟩
abbrev S1024x1 : Shape := ⟨2, ![1024, 1]⟩
abbrev S64x512 : Shape := ⟨2, ![64, 512]⟩
abbrev S128x512 : Shape := ⟨2, ![128, 512]⟩
abbrev S128x8 : Shape := ⟨2, ![128, 8]⟩
abbrev S512 : Shape := ⟨1, ![512]⟩
abbrev S8x2048 : Shape := ⟨2, ![8, 2048]⟩

abbrev nBuf : Space → Nat
  | .hbm => 17
  | .vmem => 27
  | .smem => 0
  | _ => 0

abbrev bufTy : (tb : Table) → Fin (tcTables nBuf tb) → BufTy
  | .hbm, ⟨0, _⟩ => ⟨S4x256x5632, .bf16⟩
  | .hbm, ⟨1, _⟩ => ⟨S4x256x2048, .fp8e4m3⟩
  | .hbm, ⟨2, _⟩ => ⟨S4x256, .f32⟩
  | .hbm, ⟨3, _⟩ => ⟨S1024x5632, .i8⟩
  | .hbm, ⟨4, _⟩ => ⟨S16x5632, .bf16⟩
  | .hbm, ⟨5, _⟩ => ⟨S2048x8, .bf16⟩
  | .hbm, ⟨6, _⟩ => ⟨S8x5632, .bf16⟩
  | .hbm, ⟨7, _⟩ => ⟨S5632, .f32⟩
  | .hbm, ⟨8, _⟩ => ⟨S5632, .f32⟩
  | .hbm, ⟨9, _⟩ => ⟨S1024x5632, .bf16⟩
  | .hbm, ⟨10, _⟩ => ⟨S1024x2048, .fp8e4m3⟩
  | .hbm, ⟨11, _⟩ => ⟨S1x5632, .f32⟩
  | .hbm, ⟨12, _⟩ => ⟨S1x5632, .f32⟩
  | .hbm, ⟨13, _⟩ => ⟨S1024x2048, .bf16⟩
  | .hbm, ⟨14, _⟩ => ⟨S2048x8, .bf16⟩
  | .hbm, ⟨15, _⟩ => ⟨S8x5632, .bf16⟩
  | .hbm, ⟨16, _⟩ => ⟨S1x5632, .f32⟩
  | .local _ .vmem, ⟨0, _⟩ => ⟨S1024x512, .bf16⟩
  | .local _ .vmem, ⟨1, _⟩ => ⟨S1024x512, .bf16⟩
  | .local _ .vmem, ⟨2, _⟩ => ⟨S1024x2048, .fp8e4m3⟩
  | .local _ .vmem, ⟨3, _⟩ => ⟨S4x256, .f32⟩
  | .local _ .vmem, ⟨4, _⟩ => ⟨S1024x512, .i8⟩
  | .local _ .vmem, ⟨5, _⟩ => ⟨S1024x512, .i8⟩
  | .local _ .vmem, ⟨6, _⟩ => ⟨S16x512, .bf16⟩
  | .local _ .vmem, ⟨7, _⟩ => ⟨S16x512, .bf16⟩
  | .local _ .vmem, ⟨8, _⟩ => ⟨S2048x8, .bf16⟩
  | .local _ .vmem, ⟨9, _⟩ => ⟨S8x512, .bf16⟩
  | .local _ .vmem, ⟨10, _⟩ => ⟨S8x512, .bf16⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1024x2048, .bf16⟩
  | .local _ .vmem, ⟨16, _⟩ => ⟨S2048x8, .bf16⟩
  | .local _ .vmem, ⟨17, _⟩ => ⟨S8x512, .bf16⟩
  | .local _ .vmem, ⟨18, _⟩ => ⟨S8x512, .bf16⟩
  | .local _ .vmem, ⟨19, _⟩ => ⟨S1x512, .f32⟩
  | .local _ .vmem, ⟨20, _⟩ => ⟨S1x512, .f32⟩
  | .local _ .vmem, ⟨21, _⟩ => ⟨S1024x2048, .bf16⟩
  | .local _ .vmem, ⟨22, _⟩ => ⟨S8x1024, .bf16⟩
  | .local _ .vmem, ⟨23, _⟩ => ⟨S1024x128, .f32⟩
  | .local _ .vmem, ⟨24, _⟩ => ⟨S2048x512, .bf16⟩
  | .local _ .vmem, ⟨25, _⟩ => ⟨S1024x2048, .f32⟩
  | .local _ .vmem, ⟨26, _⟩ => ⟨S8x1024, .f32⟩
  | _, _ => ⟨S4x256x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![11], ![false]⟩

def k0_cond2 (i : grid0.Coords) : BitVec 1 :=
  let arg0 : BitVec 32 := BitVec.ofNat 32 (i 0).val
  let c10_i32 : BitVec 32 := 10#32
  let v461 : BitVec 1 := Scalar.cmpi .eq arg0 c10_i32
  let v462 : BitVec 32 := Scalar.extui v461
  let c0_i32_250 : BitVec 32 := 0#32
  let v463 : BitVec 1 := Scalar.cmpi .ne v462 c0_i32_250
  v463

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x8 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x8 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S4x256x5632 : Shape := ⟨3, ![4, 256, 5632]⟩
abbrev S4x256x2048 : Shape := ⟨3, ![4, 256, 2048]⟩
abbrev S4x256 : Shape := ⟨2, ![4, 256]⟩
abbrev S1024x5632 : Shape := ⟨2, ![1024, 5632]⟩
abbrev S16x5632 : Shape := ⟨2, ![16, 5632]⟩
abbrev S2048x8 : Shape := ⟨2, ![2048, 8]⟩
abbrev S8x5632 : Shape := ⟨2, ![8, 5632]⟩
abbrev S5632 : Shape := ⟨1, ![5632]⟩
abbrev S1024x2048 : Shape := ⟨2, ![1024, 2048]⟩
abbrev S1024x1 : Shape := ⟨2, ![1024, 1]⟩
abbrev S1x5632 : Shape := ⟨2, ![1, 5632]⟩
abbrev S1024x1x5632 : Shape := ⟨3, ![1024, 1, 5632]⟩
abbrev S1024x2x5632 : Shape := ⟨3, ![1024, 2, 5632]⟩
abbrev S16x128x5632 : Shape := ⟨3, ![16, 128, 5632]⟩
abbrev S16x1x5632 : Shape := ⟨3, ![16, 1, 5632]⟩
abbrev S2048x5632 : Shape := ⟨2, ![2048, 5632]⟩
abbrev S1024x8 : Shape := ⟨2, ![1024, 8]⟩

abbrev nBuf : Space → Nat
  | .hbm => 18
  | .vmem => 13
  | .smem => 0
  | _ => 0

abbrev bufTy : (tb : Table) → Fin (tcTables nBuf tb) → BufTy
  | .hbm, ⟨0, _⟩ => ⟨S4x256x5632, .bf16⟩
  | .hbm, ⟨1, _⟩ => ⟨S4x256x2048, .fp8e4m3⟩
  | .hbm, ⟨2, _⟩ => ⟨S4x256, .f32⟩
  | .hbm, ⟨3, _⟩ => ⟨S1024x5632, .i8⟩
  | .hbm, ⟨4, _⟩ => ⟨S16x5632, .bf16⟩
  | .hbm, ⟨5, _⟩ => ⟨S2048x8, .bf16⟩
  | .hbm, ⟨6, _⟩ => ⟨S8x5632, .bf16⟩
  | .hbm, ⟨7, _⟩ => ⟨S5632, .f32⟩
  | .hbm, ⟨8, _⟩ => ⟨S5632, .f32⟩
  | .hbm, ⟨9, _⟩ => ⟨S1024x5632, .bf16⟩
  | .hbm, ⟨10, _⟩ => ⟨S1024x2048, .fp8e4m3⟩
  | .hbm, ⟨11, _⟩ => ⟨S1024x1, .f32⟩
  | .hbm, ⟨12, _⟩ => ⟨S1x5632, .f32⟩
  | .hbm, ⟨13, _⟩ => ⟨S1x5632, .f32⟩
  | .hbm, ⟨14, _⟩ => ⟨S1024x2048, .bf16⟩
  | .hbm, ⟨15, _⟩ => ⟨S2048x8, .bf16⟩
  | .hbm, ⟨16, _⟩ => ⟨S8x5632, .bf16⟩
  | .hbm, ⟨17, _⟩ => ⟨S1x5632, .f32⟩
  | .local _ .vmem, ⟨0, _⟩ => ⟨S1024x5632, .bf16⟩
  | .local _ .vmem, ⟨1, _⟩ => ⟨S1024x2048, .fp8e4m3⟩
  | .local _ .vmem, ⟨2, _⟩ => ⟨S1024x1, .f32⟩
  | .local _ .vmem, ⟨3, _⟩ => ⟨S1024x5632, .i8⟩
  | .local _ .vmem, ⟨4, _⟩ => ⟨S16x5632, .bf16⟩
  | .local _ .vmem, ⟨5, _⟩ => ⟨S2048x8, .bf16⟩
  | .local _ .vmem, ⟨6, _⟩ => ⟨S8x5632, .bf16⟩
  | .local _ .vmem, ⟨7, _⟩ => ⟨S1x5632, .f32⟩
  | .local _ .vmem, ⟨8, _⟩ => ⟨S1x5632, .f32⟩
  | .local _ .vmem, ⟨9, _⟩ => ⟨S1024x2048, .bf16⟩
  | .local _ .vmem, ⟨10, _⟩ => ⟨S2048x8, .bf16⟩
  | .local _ .vmem, ⟨11, _⟩ => ⟨S8x5632, .bf16⟩
  | .local _ .vmem, ⟨12, _⟩ => ⟨S1x5632, .f32⟩
  | _, _ => ⟨S4x256x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S1024x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x5632 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x8 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x8 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Nibble.lean ====
/-
  The four-bit weights. A byte `b` holds two of them, field 0 in its low half and field 1 in its high half, each
  in two's complement. `nib b p` is the value of field `p` as the reference decodes it (mask, flip the sign bit,
  subtract 8). The kernel decodes it another way: it spreads the two fields of the byte over the two halves of a
  32-bit word, flips the sign bits and sets the exponent of 128 with one exclusive or, reads each half as a bf16
  number and subtracts 136. `kernel_field` says the two decodings agree, for every byte and both fields.
-/
module

public import Idealize.ShloMosaic.PureOps.Ideal
public import Idealize.ShloMosaic.Lib.Tactic

@[expose] public section

set_option maxRecDepth 16384

noncomputable section

namespace Cert.Dora

open Idealize.ShloMosaic

/-- The 32-bit word whose low four bits are field `p` of the byte: the byte itself, or the byte shifted by 4. -/
def fieldWord (b : BitVec 8) (p : ℕ) : BitVec 32 :=
  if p = 0 then b.setWidth 32 else (b.setWidth 32).sshiftRight' 4#32

/-- The decoded field as a 32-bit integer. -/
def nibWord (b : BitVec 8) (p : ℕ) : BitVec 32 := ((fieldWord b p &&& 15#32) ^^^ 8#32) - 8#32

/-- The decoded field as an extended real. -/
def nib (b : BitVec 8) (p : ℕ) : EReal := (((nibWord b p).toInt : ℝ) : EReal)

/-- The word the kernel builds of a byte. -/
def pairWord (b : BitVec 8) : BitVec 32 :=
  ((b.setWidth 32 ||| (b.setWidth 32 <<< 12#32)) &&& 983055#32) ^^^ 1124614920#32

/-- The field with its sign bit flipped, a number below 16. -/
def flipped (b : BitVec 8) (p : ℕ) : ℕ := (b.toNat / 16 ^ p % 16) ^^^ 8

/-- The flipped field is below 16. -/
theorem flipped_lt : ∀ (b : BitVec 8) (p : Fin 2), flipped b p.val < 16 := by decide +kernel

/-- Each half of the kernel's word is the bf16 pattern `0x4300` plus the flipped field. -/
theorem half_toNat : ∀ (b : BitVec 8) (p : Fin 2),
    ((pairWord b).extractLsb' (16 * p.val) 16).toNat = 17152 + flipped b p.val := by decide +kernel

/-- The field as the reference decodes it is the flipped field minus 8. -/
theorem nibWord_toInt : ∀ (b : BitVec 8) (p : Fin 2), (nibWord b p.val).toInt = (flipped b p.val : ℤ) - 8 := by
  decide +kernel

/-- The bf16 pattern `0x4300 + k`, for `k` below 16, is the number `128 + k`. -/
theorem ofBits_128 (w : BitVec 16) (k : ℕ) (hk : k < 16) (hw : w.toNat = 17152 + k) :
    Ideal.ofBits .bf16 w = (((128 + k : ℕ) : ℝ) : EReal) := by
  have e : w = BitVec.ofNat 16 (17152 + k) := by
    apply BitVec.eq_of_toNat_eq
    rw [hw, BitVec.toNat_ofNat, Nat.mod_eq_of_lt (by omega)]
  have h1 : (w.extractLsb' (8 + 7) 1 == 1#1) = false := by
    subst e; revert hk k; decide +kernel
  have h2 : (w.extractLsb' 7 8).toNat = 134 := by
    subst e; revert hk k; decide +kernel
  have h3 : (w.extractLsb' 0 7).toNat = k := by
    subst e; revert hk k; decide +kernel
  show Ideal.ieee 8 7 w = _
  unfold Ideal.ieee
  simp only [h1, h2, h3]
  norm_num

/-- **The kernel's decoding of a field is the reference's.** -/
theorem kernel_field (b : BitVec 8) (p : Fin 2) :
    Ideal.ofBits .bf16 ((pairWord b).extractLsb' (16 * p.val) 16) - Ideal.ofBits .bf16 0x4308#16 = nib b p.val := by
  rw [ofBits_128 _ _ (flipped_lt b p) (half_toNat b p), ofBits_128 0x4308#16 8 (by decide) (by decide)]
  unfold nib
  rw [nibWord_toInt, ← EReal.coe_sub]
  congr 1
  push_cast
  ring

end Cert.Dora

end
-- ==== Proof.Spec.lean ====
/-
  The mathematics of the problem: from the nine inputs (`Inputs`, each a function of its indices) the four
  gradients, written as plain sums over the extended reals. Both programs are shown to compute these.
-/
module

public import proofs.«01_k».proof.Proof.Nibble
public import Mathlib.Algebra.BigOperators.Fin

@[expose] public section

set_option maxRecDepth 16384

noncomputable section

namespace Cert.Dora

open Idealize.ShloMosaic
open scoped BigOperators

/-- The constant one half, as the programs write it. -/
abbrev half : EReal := Ideal.ofBits .f32 0x3F000000#32

/-- The nine inputs. Tokens are numbered 0 … 1023. -/
structure Inputs where
  /-- the gradient of the layer's output -/
  dy : Fin 1024 → Fin 5632 → EReal
  /-- the activation codes -/
  xq : Fin 1024 → Fin 2048 → EReal
  /-- one scale per token -/
  xs : Fin 1024 → EReal
  /-- the packed weights: two rows per byte -/
  wq : Fin 1024 → Fin 5632 → BitVec 8
  /-- one weight scale per group of 128 rows and column -/
  ws : Fin 16 → Fin 5632 → EReal
  /-- the adapter's first factor -/
  a : Fin 2048 → Fin 8 → EReal
  /-- the adapter's second factor -/
  b : Fin 8 → Fin 5632 → EReal
  /-- the magnitudes -/
  mag : Fin 5632 → EReal
  /-- the column norms -/
  nrm : Fin 5632 → EReal

namespace Inputs

variable (I : Inputs)

/-- The adapted weight: the decoded and scaled weight plus half of the adapter's product. -/
def v (i : Fin 2048) (o : Fin 5632) : EReal :=
  nib (I.wq ⟨i.val / 2, by omega⟩ o) (i.val % 2) * I.ws ⟨i.val / 128, by omega⟩ o + half * ∑ r : Fin 8, I.a i r * I.b r o

/-- The output gradient times magnitude over norm. -/
def dyp (t : Fin 1024) (o : Fin 5632) : EReal := I.dy t o * Ideal.div (I.mag o) (I.nrm o)

/-- The gradient of the input. -/
def dx (t : Fin 1024) (i : Fin 2048) : EReal := ∑ o : Fin 5632, I.dyp t o * I.v i o

/-- The output gradient pulled back through the adapter's second factor. -/
def h (t : Fin 1024) (r : Fin 8) : EReal := ∑ o : Fin 5632, I.dyp t o * I.b r o

/-- The gradient of the adapter's first factor. -/
def da (i : Fin 2048) (r : Fin 8) : EReal := half * ∑ t : Fin 1024, (I.xq t i * I.xs t) * I.h t r

/-- The activations through the adapter's first factor. -/
def xa (t : Fin 1024) (r : Fin 8) : EReal := (∑ i : Fin 2048, I.xq t i * I.a i r) * I.xs t

/-- The gradient of the adapter's second factor. -/
def db (r : Fin 8) (o : Fin 5632) : EReal := half * ∑ t : Fin 1024, I.xa t r * I.dyp t o

/-- The activations through the adapted weight, times the token's scale. -/
def xv (t : Fin 1024) (o : Fin 5632) : EReal := (∑ i : Fin 2048, I.xq t i * I.v i o) * I.xs t

/-- The gradient of the magnitudes, each token's part divided by the norm before the sum. -/
def dm (o : Fin 5632) : EReal := ∑ t : Fin 1024, Ideal.div (I.dy t o * I.xv t o) (I.nrm o)

/-- The same with one division after the sum. -/
def dmOnce (o : Fin 5632) : EReal := Ideal.div (∑ t : Fin 1024, I.dy t o * I.xv t o) (I.nrm o)

end Inputs

end Cert.Dora

end
-- ==== Proof.Group.lean ====
/-
  One group of 128 rows of the weight block, as the kernel's body computes it: from 64 rows of bytes, the group's
  scales, the group's rows of `A` and the column block of `B`. The body computes sixteen such groups, in the same
  way each time; `group_apply` reads the first at a row and a column, and the other fifteen are the same function.
-/
module

public import proofs.«01_k».proof.Proof.Spec
public import proofs.«01_k».proof.Proof.Gen.KernelIdeal.Skeleton
public import Idealize.ShloMosaic.Lib.Pointwise
public import Idealize.ShloMosaic.Lib.BitcastPair

@[expose] public section

set_option maxRecDepth 16384

noncomputable section

namespace Cert.Dora

open Idealize.ShloMosaic Idealize.ShloMosaic.TcCoe Idealize.SL.Sem
open Cert.KernelIdeal Cert.KernelIdeal.Gen
open scoped BigOperators

/-- Row `i` of the bytes read at 16 bits is the half `i % 2` of row `i / 2`. -/
theorem bitcast_row (x : IVec S64x512 32) (i : Fin 128) (o : Fin 512) :
    bitcast S128x512 16 x bitcasts_S64x512_w32_S128x512_w16 (ix2 i o)
      = (x (ix2 ⟨i.val / 2, by omega⟩ o)).extractLsb' (16 * (i.val % 2)) 16 := by
  rw [bitcast_32_16]
  refine congrArg (fun y : BitVec 32 => y.extractLsb' (16 * (i.val % 2)) 16) ?_
  · congr 1
    funext a
    apply Fin.ext
    match a with
    | ⟨0, _⟩ => rfl
    | ⟨1, _⟩ => rfl

/-- **A group's element**: the decoded weight times the scale, plus one half of the adapter's product. -/
theorem group_apply (w : Vec Ideal S64x512 .i8) (s : Vec Ideal S1x512 .bf16) (a : Vec Ideal S128x8 .bf16)
    (b : Vec Ideal S8x512 .bf16) (i : Fin 128) (o : Fin 512) :
    k0_pay16 (F := Ideal) w s a b (ix2 i o)
      = nib (w (ix2 ⟨i.val / 2, by omega⟩ o)) (i.val % 2) * s (ix2 0 o)
        + half * ∑ r : Fin 8, a (ix2 i r) * b (ix2 r o) := by
  have hb : ∀ y : BitVec 8, Ideal.ofBits .bf16 ((pairWord y).extractLsb' (16 * (i.val % 2)) 16)
      - Ideal.ofBits .bf16 0x4308#16 = nib y (i.val % 2) :=
    fun y => kernel_field y ⟨i.val % 2, by omega⟩
  pointwise [k0_pay16]
  rw [bitcast_row]
  have hw : xori (andi (ori (extui 32 w natLt_8_32) (shli (extui 32 w natLt_8_32) (broadcast S64x512 12#32)))
      (broadcast S64x512 983055#32)) (broadcast S64x512 1124614920#32) (ix2 ⟨i.val / 2, by omega⟩ o)
      = pairWord (w (ix2 ⟨i.val / 2, by omega⟩ o)) := rfl
  rw [hw, hb]

/-! The other fifteen groups are the same function of their inputs. -/

section

variable (w : Vec Ideal S64x512 .i8) (s : Vec Ideal S1x512 .bf16) (a : Vec Ideal S128x8 .bf16) (b : Vec Ideal S8x512 .bf16)

/-- Group 1 is computed as group 0 is. -/
theorem group1_eq : k0_pay19 (k0_pay17 (F := Ideal) w) k0_pay18 s a b = k0_pay16 (F := Ideal) w s a b := rfl

/-- Group 2 is computed as group 0 is. -/
theorem group2_eq : k0_pay21 (k0_pay20 w s) a b = k0_pay16 (F := Ideal) w s a b := rfl

/-- Group 3 is computed as group 0 is. -/
theorem group3_eq : k0_pay22 w s a b = k0_pay16 (F := Ideal) w s a b := rfl

/-- Group 4 is computed as group 0 is. -/
theorem group4_eq : k0_pay23 w s a b = k0_pay16 (F := Ideal) w s a b := rfl

/-- Group 5 is computed as group 0 is. -/
theorem group5_eq : k0_pay25 (k0_pay24 w) s a b = k0_pay16 (F := Ideal) w s a b := rfl

/-- Group 6 is computed as group 0 is. -/
theorem group6_eq : k0_pay28 (k0_pay26 w s) (k0_pay27 a b) = k0_pay16 (F := Ideal) w s a b := rfl

/-- Group 7 is computed as group 0 is. -/
theorem group7_eq : k0_pay29 w s a b = k0_pay16 (F := Ideal) w s a b := rfl

/-- Group 8 is computed as group 0 is. -/
theorem group8_eq : k0_pay31 (k0_pay30 (F := Ideal) w) 983055#32 s a b = k0_pay16 (F := Ideal) w s a b := rfl

/-- Group 9 is computed as group 0 is. -/
theorem group9_eq : k0_pay33 (k0_pay32 w s) a b = k0_pay16 (F := Ideal) w s a b := rfl

/-- Group 10 is computed as group 0 is. -/
theorem group10_eq : k0_pay34 w s a b = k0_pay16 (F := Ideal) w s a b := rfl

/-- Group 11 is computed as group 0 is. -/
theorem group11_eq : k0_pay35 w s a b = k0_pay16 (F := Ideal) w s a b := rfl

/-- Group 12 is computed as group 0 is. -/
theorem group12_eq : k0_pay38 (k0_pay36 w) k0_pay37 s a b = k0_pay16 (F := Ideal) w s a b := rfl

/-- Group 13 is computed as group 0 is. -/
theorem group13_eq : k0_pay42 (k0_pay39 a b) (k0_pay40 w s) k0_pay41 = k0_pay16 (F := Ideal) w s a b := rfl

/-- Group 14 is computed as group 0 is. -/
theorem group14_eq : k0_pay43 w s a b = k0_pay16 (F := Ideal) w s a b := rfl

/-- Group 15 is computed as group 0 is. -/
theorem group15_eq : k0_pay45 (k0_pay44 (F := Ideal) w) s a b = k0_pay16 (F := Ideal) w s a b := rfl

end

end Cert.Dora

end
-- ==== Proof.Pieces.lean ====
/-
  Two scratch buffers are filled piece by piece before they are read: the weight block, as sixteen groups of 128
  rows, and the scale column, as eight squares of 128 rows. `canon_groups` and `canon_squares` say that when every
  piece is the matching part of one function of the whole index, the buffer holds that function.
  `vblk` is the function for the weight block and `scolF` the one for the scale column.
-/
module

public import proofs.«01_k».proof.Proof.Group
public import Idealize.ShloMosaic.Lib.Pipeline.Value
public import Idealize.ShloMosaic.Lib.Pipeline.ReadBack

@[expose] public section

set_option maxRecDepth 16384

noncomputable section

namespace Cert.Dora

open Idealize.ShloMosaic Idealize.ShloMosaic.TcCoe Idealize.SL.Sem
open Cert.KernelIdeal Cert.KernelIdeal.Gen
open scoped BigOperators

/-- Every load and store starts at index 0 of both axes. -/
theorem hz : (![0, 0] : Fin 2 → Nat) = fun _ => 0 := funext fun a => by fin_cases a <;> rfl

/-- A load of a rectangle after a list of stores reads what the stores left, at the rectangle's indices. -/
theorem readCov_ld {sig : RefSig} {κ : Kind} {sp : Space} {s : Shape} {e : EltTy} (v : View sig κ sp s e)
    (L : List (View.Piece (Elt Ideal) s e)) (r : Rect s) :
    v.readCov L r.toLoadRect = View.ld (View.canon L) r :=
  View.readCov_eq_canon' v L r.toLoadRect

/-- An index with row `i` lies in the block of 128 rows that starts at row `n`. -/
theorem mem_rows {R C n : ℕ} (inb : ∀ a, (![n, 0] : Fin 2 → ℕ) a + (⟨2, ![128, C]⟩ : Shape).size a ≤ (⟨2, ![R, C]⟩ : Shape).size a)
    (y : (⟨2, ![R, C]⟩ : Shape).Idx) (h : n ≤ (y 0).val ∧ (y 0).val < n + 128) :
    y ∈ (Rect.unit (s := ⟨2, ![R, C]⟩) ![n, 0] (⟨2, ![128, C]⟩ : Shape).size inb).set := by
  rw [Rect.mem_set_unit]
  intro a
  match a with
  | ⟨0, _⟩ => exact h
  | ⟨1, _⟩ => exact ⟨Nat.zero_le _, by show (y 1).val < 0 + C; have := (y 1).isLt; exact lt_of_lt_of_eq this (Nat.zero_add C).symm⟩

/-- The element of the block of 128 rows starting at row `n` is the whole array's, `n` rows further down. -/
theorem emb_rows {R C n : ℕ} (inb : ∀ a, (![n, 0] : Fin 2 → ℕ) a + (⟨2, ![128, C]⟩ : Shape).size a ≤ (⟨2, ![R, C]⟩ : Shape).size a)
    (hn : n + 128 ≤ R) (i : Fin 128) (o : Fin C) :
    (Rect.unit (s := ⟨2, ![R, C]⟩) ![n, 0] (⟨2, ![128, C]⟩ : Shape).size inb).emb (ix2 i o)
      = ix2 (⟨n + i.val, by omega⟩ : Fin R) o := by
  funext a
  apply Fin.ext
  match a with
  | ⟨0, _⟩ => show n + 1 * i.val = n + i.val; omega
  | ⟨1, _⟩ => show 0 + 1 * o.val = o.val; omega

/-- The element of a block of rows that starts at row `n` is the whole array's, `n` rows further down. -/
theorem idx_rows {R C H n : ℕ} (inb : ∀ a, (![n, 0] : Fin 2 → ℕ) a + (⟨2, ![H, C]⟩ : Shape).size a ≤ (⟨2, ![R, C]⟩ : Shape).size a)
    (hn : n + H ≤ R) (i : Fin H) (o : Fin C) :
    (Rect.unit (s := ⟨2, ![R, C]⟩) ![n, 0] (⟨2, ![H, C]⟩ : Shape).size inb).idx (ix2 i o)
      = ix2 (⟨n + i.val, by omega⟩ : Fin R) o := by
  funext a
  apply Fin.ext
  match a with
  | ⟨0, _⟩ => show n + 1 * i.val = n + i.val; omega
  | ⟨1, _⟩ => show 0 + 1 * o.val = o.val; omega

/-- The element of a block of columns that starts at row `n`, column `k` is the whole array's, further along. -/
theorem idx_cols {R C H W n k : ℕ} (inb : ∀ a, (![n, k] : Fin 2 → ℕ) a + (⟨2, ![H, W]⟩ : Shape).size a ≤ (⟨2, ![R, C]⟩ : Shape).size a)
    (hn : n + H ≤ R) (hk : k + W ≤ C) (i : Fin H) (o : Fin W) :
    (Rect.unit (s := ⟨2, ![R, C]⟩) ![n, k] (⟨2, ![H, W]⟩ : Shape).size inb).idx (ix2 i o)
      = ix2 (⟨n + i.val, by omega⟩ : Fin R) (⟨k + o.val, by omega⟩ : Fin C) := by
  funext a
  apply Fin.ext
  match a with
  | ⟨0, _⟩ => show n + 1 * i.val = n + i.val; omega
  | ⟨1, _⟩ => show k + 1 * o.val = k + o.val; omega

/-- The weight block as a function of the block's inputs: row `i`, column `o` is the decoded weight times its
    group's scale, plus one half of row `i` of `A` times column `o` of `B`. -/
def vblk (x3 : Vec Ideal S1024x512 .i8) (x4 : Vec Ideal S16x512 .bf16) (x5 : Vec Ideal S2048x8 .bf16)
    (x6 : Vec Ideal S8x512 .bf16) : Vec Ideal S2048x512 .bf16 := fun y =>
  nib (x3 (ix2 ⟨(y 0).val / 2, by have : (y 0).val < 2048 := (y 0).isLt; omega⟩ (y 1))) ((y 0).val % 2)
      * x4 (ix2 ⟨(y 0).val / 128, by have : (y 0).val < 2048 := (y 0).isLt; omega⟩ (y 1))
    + half * ∑ r : Fin 8, x5 (ix2 (y 0) r) * x6 (ix2 r (y 1))

/-- The scale column: every element of row `t` is the scale of token `t`, which is entry `t % 256` of row `t / 256`. -/
def scolF (x2 : Vec Ideal S4x256 .f32) : Vec Ideal S1024x128 .f32 := fun y =>
  x2 (ix2 ⟨(y 0).val / 256, by have : (y 0).val < 1024 := (y 0).isLt; omega⟩ ⟨(y 0).val % 256, by omega⟩)

/-- The first column of a scale column. -/
def colOf (s : Vec Ideal S1024x128 .f32) : Vec Ideal S1024x1 .f32 := fun y => s (ix2 (y 0) 0)

/-- One group, from blocks that are the group's parts of the inputs, is the group's part of `vblk`. -/
theorem group_block (k M N : ℕ) (hk : k < 16) (hM : M = 64 * k) (hN : N = 128 * k) (x3 : Vec Ideal S1024x512 .i8) (x4 : Vec Ideal S16x512 .bf16)
    (x5 : Vec Ideal S2048x8 .bf16) (x6 : Vec Ideal S8x512 .bf16)
    (w : Vec Ideal S64x512 .i8) (s : Vec Ideal S1x512 .bf16) (a : Vec Ideal S128x8 .bf16) (b : Vec Ideal S8x512 .bf16)
    (hw : ∀ (i : Fin 64) (o : Fin 512), w (ix2 i o) = x3 (ix2 ⟨M + i.val, by omega⟩ o))
    (hs : ∀ o : Fin 512, s (ix2 0 o) = x4 (ix2 ⟨k, hk⟩ o))
    (ha : ∀ (i : Fin 128) (r : Fin 8), a (ix2 i r) = x5 (ix2 ⟨N + i.val, by omega⟩ r))
    (hb : ∀ (r : Fin 8) (o : Fin 512), b (ix2 r o) = x6 (ix2 r o)) (i : Fin 128) (o : Fin 512) :
    k0_pay16 (F := Ideal) w s a b (ix2 i o) = vblk x3 x4 x5 x6 (ix2 ⟨N + i.val, by omega⟩ o) := by
  subst hM hN
  rw [group_apply, hw, hs]
  simp only [ha, hb]
  unfold vblk
  have e1 : (128 * k + i.val) / 2 = 64 * k + i.val / 2 := by omega
  have e2 : (128 * k + i.val) % 2 = i.val % 2 := by omega
  have e3 : (128 * k + i.val) / 128 = k := by omega
  simp only [ix2_0, ix2_1, e1, e2, e3]

/-- Sixteen groups of 128 rows, each the matching part of `G`, leave `G`. -/
theorem canon_groups (G : Vec Ideal S2048x512 .bf16) (P0 P1 P2 P3 P4 P5 P6 P7 P8 P9 P10 P11 P12 P13 P14 P15 : Vec Ideal S128x512 .bf16)
    (i0 : ∀ a, (![0, 0] : Fin 2 → ℕ) a + S128x512.size a ≤ S2048x512.size a)
    (i1 : ∀ a, (![128, 0] : Fin 2 → ℕ) a + S128x512.size a ≤ S2048x512.size a)
    (i2 : ∀ a, (![256, 0] : Fin 2 → ℕ) a + S128x512.size a ≤ S2048x512.size a)
    (i3 : ∀ a, (![384, 0] : Fin 2 → ℕ) a + S128x512.size a ≤ S2048x512.size a)
    (i4 : ∀ a, (![512, 0] : Fin 2 → ℕ) a + S128x512.size a ≤ S2048x512.size a)
    (i5 : ∀ a, (![640, 0] : Fin 2 → ℕ) a + S128x512.size a ≤ S2048x512.size a)
    (i6 : ∀ a, (![768, 0] : Fin 2 → ℕ) a + S128x512.size a ≤ S2048x512.size a)
    (i7 : ∀ a, (![896, 0] : Fin 2 → ℕ) a + S128x512.size a ≤ S2048x512.size a)
    (i8 : ∀ a, (![1024, 0] : Fin 2 → ℕ) a + S128x512.size a ≤ S2048x512.size a)
    (i9 : ∀ a, (![1152, 0] : Fin 2 → ℕ) a + S128x512.size a ≤ S2048x512.size a)
    (i10 : ∀ a, (![1280, 0] : Fin 2 → ℕ) a + S128x512.size a ≤ S2048x512.size a)
    (i11 : ∀ a, (![1408, 0] : Fin 2 → ℕ) a + S128x512.size a ≤ S2048x512.size a)
    (i12 : ∀ a, (![1536, 0] : Fin 2 → ℕ) a + S128x512.size a ≤ S2048x512.size a)
    (i13 : ∀ a, (![1664, 0] : Fin 2 → ℕ) a + S128x512.size a ≤ S2048x512.size a)
    (i14 : ∀ a, (![1792, 0] : Fin 2 → ℕ) a + S128x512.size a ≤ S2048x512.size a)
    (i15 : ∀ a, (![1920, 0] : Fin 2 → ℕ) a + S128x512.size a ≤ S2048x512.size a)
    (h0 : ∀ (i : Fin 128) (o : Fin 512), P0 (ix2 i o) = G (ix2 ⟨0 + i.val, by omega⟩ o))
    (h1 : ∀ (i : Fin 128) (o : Fin 512), P1 (ix2 i o) = G (ix2 ⟨128 + i.val, by omega⟩ o))
    (h2 : ∀ (i : Fin 128) (o : Fin 512), P2 (ix2 i o) = G (ix2 ⟨256 + i.val, by omega⟩ o))
    (h3 : ∀ (i : Fin 128) (o : Fin 512), P3 (ix2 i o) = G (ix2 ⟨384 + i.val, by omega⟩ o))
    (h4 : ∀ (i : Fin 128) (o : Fin 512), P4 (ix2 i o) = G (ix2 ⟨512 + i.val, by omega⟩ o))
    (h5 : ∀ (i : Fin 128) (o : Fin 512), P5 (ix2 i o) = G (ix2 ⟨640 + i.val, by omega⟩ o))
    (h6 : ∀ (i : Fin 128) (o : Fin 512), P6 (ix2 i o) = G (ix2 ⟨768 + i.val, by omega⟩ o))
    (h7 : ∀ (i : Fin 128) (o : Fin 512), P7 (ix2 i o) = G (ix2 ⟨896 + i.val, by omega⟩ o))
    (h8 : ∀ (i : Fin 128) (o : Fin 512), P8 (ix2 i o) = G (ix2 ⟨1024 + i.val, by omega⟩ o))
    (h9 : ∀ (i : Fin 128) (o : Fin 512), P9 (ix2 i o) = G (ix2 ⟨1152 + i.val, by omega⟩ o))
    (h10 : ∀ (i : Fin 128) (o : Fin 512), P10 (ix2 i o) = G (ix2 ⟨1280 + i.val, by omega⟩ o))
    (h11 : ∀ (i : Fin 128) (o : Fin 512), P11 (ix2 i o) = G (ix2 ⟨1408 + i.val, by omega⟩ o))
    (h12 : ∀ (i : Fin 128) (o : Fin 512), P12 (ix2 i o) = G (ix2 ⟨1536 + i.val, by omega⟩ o))
    (h13 : ∀ (i : Fin 128) (o : Fin 512), P13 (ix2 i o) = G (ix2 ⟨1664 + i.val, by omega⟩ o))
    (h14 : ∀ (i : Fin 128) (o : Fin 512), P14 (ix2 i o) = G (ix2 ⟨1792 + i.val, by omega⟩ o))
    (h15 : ∀ (i : Fin 128) (o : Fin 512), P15 (ix2 i o) = G (ix2 ⟨1920 + i.val, by omega⟩ o)) :
    View.canon ([⟨Rect.unit (s := S2048x512) ![1920, 0] S128x512.size i15, P15⟩,
      ⟨Rect.unit (s := S2048x512) ![1792, 0] S128x512.size i14, P14⟩,
      ⟨Rect.unit (s := S2048x512) ![1664, 0] S128x512.size i13, P13⟩,
      ⟨Rect.unit (s := S2048x512) ![1536, 0] S128x512.size i12, P12⟩,
      ⟨Rect.unit (s := S2048x512) ![1408, 0] S128x512.size i11, P11⟩,
      ⟨Rect.unit (s := S2048x512) ![1280, 0] S128x512.size i10, P10⟩,
      ⟨Rect.unit (s := S2048x512) ![1152, 0] S128x512.size i9, P9⟩,
      ⟨Rect.unit (s := S2048x512) ![1024, 0] S128x512.size i8, P8⟩,
      ⟨Rect.unit (s := S2048x512) ![896, 0] S128x512.size i7, P7⟩,
      ⟨Rect.unit (s := S2048x512) ![768, 0] S128x512.size i6, P6⟩,
      ⟨Rect.unit (s := S2048x512) ![640, 0] S128x512.size i5, P5⟩,
      ⟨Rect.unit (s := S2048x512) ![512, 0] S128x512.size i4, P4⟩,
      ⟨Rect.unit (s := S2048x512) ![384, 0] S128x512.size i3, P3⟩,
      ⟨Rect.unit (s := S2048x512) ![256, 0] S128x512.size i2, P2⟩,
      ⟨Rect.unit (s := S2048x512) ![128, 0] S128x512.size i1, P1⟩,
      ⟨Rect.unit (s := S2048x512) ![0, 0] S128x512.size i0, P0⟩] : List (View.Piece (Elt Ideal) S2048x512 .bf16)) = G := by
  funext y
  refine View.canon_apply_of_pieces G _ (View.PiecesOf.mem ?_) y ?_
  · refine ⟨?_, ?_, ?_, ?_, ?_, ?_, ?_, ?_, ?_, ?_, ?_, ?_, ?_, ?_, ?_, ?_, trivial⟩
    · intro x; rw [eq_ix2 x]; exact (h15 _ _).trans (congrArg G (emb_rows i15 (by omega) _ _).symm)
    · intro x; rw [eq_ix2 x]; exact (h14 _ _).trans (congrArg G (emb_rows i14 (by omega) _ _).symm)
    · intro x; rw [eq_ix2 x]; exact (h13 _ _).trans (congrArg G (emb_rows i13 (by omega) _ _).symm)
    · intro x; rw [eq_ix2 x]; exact (h12 _ _).trans (congrArg G (emb_rows i12 (by omega) _ _).symm)
    · intro x; rw [eq_ix2 x]; exact (h11 _ _).trans (congrArg G (emb_rows i11 (by omega) _ _).symm)
    · intro x; rw [eq_ix2 x]; exact (h10 _ _).trans (congrArg G (emb_rows i10 (by omega) _ _).symm)
    · intro x; rw [eq_ix2 x]; exact (h9 _ _).trans (congrArg G (emb_rows i9 (by omega) _ _).symm)
    · intro x; rw [eq_ix2 x]; exact (h8 _ _).trans (congrArg G (emb_rows i8 (by omega) _ _).symm)
    · intro x; rw [eq_ix2 x]; exact (h7 _ _).trans (congrArg G (emb_rows i7 (by omega) _ _).symm)
    · intro x; rw [eq_ix2 x]; exact (h6 _ _).trans (congrArg G (emb_rows i6 (by omega) _ _).symm)
    · intro x; rw [eq_ix2 x]; exact (h5 _ _).trans (congrArg G (emb_rows i5 (by omega) _ _).symm)
    · intro x; rw [eq_ix2 x]; exact (h4 _ _).trans (congrArg G (emb_rows i4 (by omega) _ _).symm)
    · intro x; rw [eq_ix2 x]; exact (h3 _ _).trans (congrArg G (emb_rows i3 (by omega) _ _).symm)
    · intro x; rw [eq_ix2 x]; exact (h2 _ _).trans (congrArg G (emb_rows i2 (by omega) _ _).symm)
    · intro x; rw [eq_ix2 x]; exact (h1 _ _).trans (congrArg G (emb_rows i1 (by omega) _ _).symm)
    · intro x; rw [eq_ix2 x]; exact (h0 _ _).trans (congrArg G (emb_rows i0 (by omega) _ _).symm)
  · have hy : (y 0).val < 2048 := (y 0).isLt
    simp only [List.mem_cons, List.not_mem_nil, or_false, exists_eq_or_imp, exists_eq_left]
    by_cases c15 : 1920 ≤ (y 0).val
    · exact Or.inl (mem_rows i15 y ⟨c15, by omega⟩)
    by_cases c14 : 1792 ≤ (y 0).val
    · exact Or.inr (Or.inl (mem_rows i14 y ⟨c14, by omega⟩))
    by_cases c13 : 1664 ≤ (y 0).val
    · exact Or.inr (Or.inr (Or.inl (mem_rows i13 y ⟨c13, by omega⟩)))
    by_cases c12 : 1536 ≤ (y 0).val
    · exact Or.inr (Or.inr (Or.inr (Or.inl (mem_rows i12 y ⟨c12, by omega⟩))))
    by_cases c11 : 1408 ≤ (y 0).val
    · exact Or.inr (Or.inr (Or.inr (Or.inr (Or.inl (mem_rows i11 y ⟨c11, by omega⟩)))))
    by_cases c10 : 1280 ≤ (y 0).val
    · exact Or.inr (Or.inr (Or.inr (Or.inr (Or.inr (Or.inl (mem_rows i10 y ⟨c10, by omega⟩))))))
    by_cases c9 : 1152 ≤ (y 0).val
    · exact Or.inr (Or.inr (Or.inr (Or.inr (Or.inr (Or.inr (Or.inl (mem_rows i9 y ⟨c9, by omega⟩)))))))
    by_cases c8 : 1024 ≤ (y 0).val
    · exact Or.inr (Or.inr (Or.inr (Or.inr (Or.inr (Or.inr (Or.inr (Or.inl (mem_rows i8 y ⟨c8, by omega⟩))))))))
    by_cases c7 : 896 ≤ (y 0).val
    · exact Or.inr (Or.inr (Or.inr (Or.inr (Or.inr (Or.inr (Or.inr (Or.inr (Or.inl (mem_rows i7 y ⟨c7, by omega⟩)))))))))
    by_cases c6 : 768 ≤ (y 0).val
    · exact Or.inr (Or.inr (Or.inr (Or.inr (Or.inr (Or.inr (Or.inr (Or.inr (Or.inr (Or.inl (mem_rows i6 y ⟨c6, by omega⟩))))))))))
    by_cases c5 : 640 ≤ (y 0).val
    · exact Or.inr (Or.inr (Or.inr (Or.inr (Or.inr (Or.inr (Or.inr (Or.inr (Or.inr (Or.inr (Or.inl (mem_rows i5 y ⟨c5, by omega⟩)))))))))))
    by_cases c4 : 512 ≤ (y 0).val
    · exact Or.inr (Or.inr (Or.inr (Or.inr (Or.inr (Or.inr (Or.inr (Or.inr (Or.inr (Or.inr (Or.inr (Or.inl (mem_rows i4 y ⟨c4, by omega⟩))))))))))))
    by_cases c3 : 384 ≤ (y 0).val
    · exact Or.inr (Or.inr (Or.inr (Or.inr (Or.inr (Or.inr (Or.inr (Or.inr (Or.inr (Or.inr (Or.inr (Or.inr (Or.inl (mem_rows i3 y ⟨c3, by omega⟩)))))))))))))
    by_cases c2 : 256 ≤ (y 0).val
    · exact Or.inr (Or.inr (Or.inr (Or.inr (Or.inr (Or.inr (Or.inr (Or.inr (Or.inr (Or.inr (Or.inr (Or.inr (Or.inr (Or.inl (mem_rows i2 y ⟨c2, by omega⟩))))))))))))))
    by_cases c1 : 128 ≤ (y 0).val
    · exact Or.inr (Or.inr (Or.inr (Or.inr (Or.inr (Or.inr (Or.inr (Or.inr (Or.inr (Or.inr (Or.inr (Or.inr (Or.inr (Or.inr (Or.inl (mem_rows i1 y ⟨c1, by omega⟩)))))))))))))))
    exact Or.inr (Or.inr (Or.inr (Or.inr (Or.inr (Or.inr (Or.inr (Or.inr (Or.inr (Or.inr (Or.inr (Or.inr (Or.inr (Or.inr (Or.inr (mem_rows i0 y ⟨Nat.zero_le _, by omega⟩)))))))))))))))

/-- Eight squares of 128 rows, each the matching part of `G`, leave `G`. -/
theorem canon_squares (G : Vec Ideal S1024x128 .f32) (P0 P1 P2 P3 P4 P5 P6 P7 : Vec Ideal S128x128 .f32)
    (i0 : ∀ a, (![0, 0] : Fin 2 → ℕ) a + S128x128.size a ≤ S1024x128.size a)
    (i1 : ∀ a, (![128, 0] : Fin 2 → ℕ) a + S128x128.size a ≤ S1024x128.size a)
    (i2 : ∀ a, (![256, 0] : Fin 2 → ℕ) a + S128x128.size a ≤ S1024x128.size a)
    (i3 : ∀ a, (![384, 0] : Fin 2 → ℕ) a + S128x128.size a ≤ S1024x128.size a)
    (i4 : ∀ a, (![512, 0] : Fin 2 → ℕ) a + S128x128.size a ≤ S1024x128.size a)
    (i5 : ∀ a, (![640, 0] : Fin 2 → ℕ) a + S128x128.size a ≤ S1024x128.size a)
    (i6 : ∀ a, (![768, 0] : Fin 2 → ℕ) a + S128x128.size a ≤ S1024x128.size a)
    (i7 : ∀ a, (![896, 0] : Fin 2 → ℕ) a + S128x128.size a ≤ S1024x128.size a)
    (h0 : ∀ (i : Fin 128) (o : Fin 128), P0 (ix2 i o) = G (ix2 ⟨0 + i.val, by omega⟩ o))
    (h1 : ∀ (i : Fin 128) (o : Fin 128), P1 (ix2 i o) = G (ix2 ⟨128 + i.val, by omega⟩ o))
    (h2 : ∀ (i : Fin 128) (o : Fin 128), P2 (ix2 i o) = G (ix2 ⟨256 + i.val, by omega⟩ o))
    (h3 : ∀ (i : Fin 128) (o : Fin 128), P3 (ix2 i o) = G (ix2 ⟨384 + i.val, by omega⟩ o))
    (h4 : ∀ (i : Fin 128) (o : Fin 128), P4 (ix2 i o) = G (ix2 ⟨512 + i.val, by omega⟩ o))
    (h5 : ∀ (i : Fin 128) (o : Fin 128), P5 (ix2 i o) = G (ix2 ⟨640 + i.val, by omega⟩ o))
    (h6 : ∀ (i : Fin 128) (o : Fin 128), P6 (ix2 i o) = G (ix2 ⟨768 + i.val, by omega⟩ o))
    (h7 : ∀ (i : Fin 128) (o : Fin 128), P7 (ix2 i o) = G (ix2 ⟨896 + i.val, by omega⟩ o)) :
    View.canon ([⟨Rect.unit (s := S1024x128) ![896, 0] S128x128.size i7, P7⟩,
      ⟨Rect.unit (s := S1024x128) ![768, 0] S128x128.size i6, P6⟩,
      ⟨Rect.unit (s := S1024x128) ![640, 0] S128x128.size i5, P5⟩,
      ⟨Rect.unit (s := S1024x128) ![512, 0] S128x128.size i4, P4⟩,
      ⟨Rect.unit (s := S1024x128) ![384, 0] S128x128.size i3, P3⟩,
      ⟨Rect.unit (s := S1024x128) ![256, 0] S128x128.size i2, P2⟩,
      ⟨Rect.unit (s := S1024x128) ![128, 0] S128x128.size i1, P1⟩,
      ⟨Rect.unit (s := S1024x128) ![0, 0] S128x128.size i0, P0⟩] : List (View.Piece (Elt Ideal) S1024x128 .f32)) = G := by
  funext y
  refine View.canon_apply_of_pieces G _ (View.PiecesOf.mem ?_) y ?_
  · refine ⟨?_, ?_, ?_, ?_, ?_, ?_, ?_, ?_, trivial⟩
    · intro x; rw [eq_ix2 x]; exact (h7 _ _).trans (congrArg G (emb_rows i7 (by omega) _ _).symm)
    · intro x; rw [eq_ix2 x]; exact (h6 _ _).trans (congrArg G (emb_rows i6 (by omega) _ _).symm)
    · intro x; rw [eq_ix2 x]; exact (h5 _ _).trans (congrArg G (emb_rows i5 (by omega) _ _).symm)
    · intro x; rw [eq_ix2 x]; exact (h4 _ _).trans (congrArg G (emb_rows i4 (by omega) _ _).symm)
    · intro x; rw [eq_ix2 x]; exact (h3 _ _).trans (congrArg G (emb_rows i3 (by omega) _ _).symm)
    · intro x; rw [eq_ix2 x]; exact (h2 _ _).trans (congrArg G (emb_rows i2 (by omega) _ _).symm)
    · intro x; rw [eq_ix2 x]; exact (h1 _ _).trans (congrArg G (emb_rows i1 (by omega) _ _).symm)
    · intro x; rw [eq_ix2 x]; exact (h0 _ _).trans (congrArg G (emb_rows i0 (by omega) _ _).symm)
  · have hy : (y 0).val < 1024 := (y 0).isLt
    simp only [List.mem_cons, List.not_mem_nil, or_false, exists_eq_or_imp, exists_eq_left]
    by_cases c7 : 896 ≤ (y 0).val
    · exact Or.inl (mem_rows i7 y ⟨c7, by omega⟩)
    by_cases c6 : 768 ≤ (y 0).val
    · exact Or.inr (Or.inl (mem_rows i6 y ⟨c6, by omega⟩))
    by_cases c5 : 640 ≤ (y 0).val
    · exact Or.inr (Or.inr (Or.inl (mem_rows i5 y ⟨c5, by omega⟩)))
    by_cases c4 : 512 ≤ (y 0).val
    · exact Or.inr (Or.inr (Or.inr (Or.inl (mem_rows i4 y ⟨c4, by omega⟩))))
    by_cases c3 : 384 ≤ (y 0).val
    · exact Or.inr (Or.inr (Or.inr (Or.inr (Or.inl (mem_rows i3 y ⟨c3, by omega⟩)))))
    by_cases c2 : 256 ≤ (y 0).val
    · exact Or.inr (Or.inr (Or.inr (Or.inr (Or.inr (Or.inl (mem_rows i2 y ⟨c2, by omega⟩))))))
    by_cases c1 : 128 ≤ (y 0).val
    · exact Or.inr (Or.inr (Or.inr (Or.inr (Or.inr (Or.inr (Or.inl (mem_rows i1 y ⟨c1, by omega⟩)))))))
    exact Or.inr (Or.inr (Or.inr (Or.inr (Or.inr (Or.inr (Or.inr (mem_rows i0 y ⟨Nat.zero_le _, by omega⟩)))))))

/-- One square of the scale column: the transpose of 128 copies of a row of 128 scales. -/
theorem square_apply (x : Vec Ideal S1x128 .f32) (i o : Fin 128) :
    k0_pay4 (F := Ideal) x (ix2 i o) = x (ix2 0 i) := by
  pointwise [k0_pay4]

/-- Reading the first column of a whole array. -/
theorem ld_col (s : Vec Ideal S1024x128 .f32) (inb) :
    (View.ld s (Rect.unit ![0, 0] ![1024, 1] inb) : Vec Ideal S1024x1 .f32) = colOf s := by
  funext x
  refine congrArg s ?_
  funext a
  apply Fin.ext
  match a with
  | ⟨0, _⟩ => show 0 + 1 * (x 0).val = (x 0).val; omega
  | ⟨1, _⟩ => have : (x 1).val < 1 := (x 1).isLt; show 0 + 1 * (x 1).val = 0; omega

/-- The other seven squares are the same function of their inputs. -/
theorem square1_eq (x : Vec Ideal S1x128 .f32) : k0_pay5 (F := Ideal) x = k0_pay4 x := rfl
/-- Square 3 of the eight is computed as the first. -/
theorem square2_eq (x : Vec Ideal S1x128 .f32) : k0_pay6 (F := Ideal) x = k0_pay4 x := rfl
/-- Square 4 of the eight is computed as the first. -/
theorem square3_eq (x : Vec Ideal S1x128 .f32) : k0_pay7 (F := Ideal) x = k0_pay4 x := rfl
/-- Square 5 of the eight is computed as the first. -/
theorem square4_eq (x : Vec Ideal S1x128 .f32) : k0_pay8 (F := Ideal) x = k0_pay4 x := rfl
/-- Square 6 of the eight is computed as the first. -/
theorem square5_eq (x : Vec Ideal S1x128 .f32) : k0_pay9 (F := Ideal) x = k0_pay4 x := rfl
/-- Square 7 of the eight is computed as the first. -/
theorem square6_eq (x : Vec Ideal S1x128 .f32) : k0_pay10 (F := Ideal) x = k0_pay4 x := rfl
/-- Square 8 of the eight is computed as the first. -/
theorem square7_eq (x : Vec Ideal S1x128 .f32) : k0_pay11 (F := Ideal) x = k0_pay4 x := rfl

/-- One square, from the 128 scales it holds, is the matching part of `scolF`. -/
theorem square_block (N q c : ℕ) (hq : q < 4) (hc : c + 128 ≤ 256) (hN : N = 256 * q + c) (x2 : Vec Ideal S4x256 .f32)
    (x : Vec Ideal S1x128 .f32) (hx : ∀ o : Fin 128, x (ix2 0 o) = x2 (ix2 ⟨q, hq⟩ ⟨c + o.val, by omega⟩)) (i o : Fin 128) :
    k0_pay4 (F := Ideal) x (ix2 i o) = scolF x2 (ix2 ⟨N + i.val, by omega⟩ o) := by
  subst hN
  rw [square_apply, hx]
  unfold scolF
  have e1 : (256 * q + c + i.val) / 256 = q := by omega
  have e2 : (256 * q + c + i.val) % 256 = c + i.val := by omega
  simp only [ix2_0, e1, e2]

end Cert.Dora

end
-- ==== Proof.KernelPoint.lean ====
/-
  The values the kernel's body stores, each read at one index: a matrix product is a sum over the contracted index,
  a cast is the identity, a broadcast repeats.
-/
module

public import proofs.«01_k».proof.Proof.Pieces
public import Idealize.ShloMosaic.Lib.Pointwise

@[expose] public section

set_option maxRecDepth 16384

noncomputable section

namespace Cert.Dora

open Idealize.ShloMosaic Idealize.ShloMosaic.TcCoe Idealize.SL.Sem
open Cert.KernelIdeal Cert.KernelIdeal.Gen
open scoped BigOperators

/-- The rounded running gradient is the running gradient. -/
theorem pay1_apply (x : Vec Ideal S1024x2048 .f32) (t : Fin 1024) (i : Fin 2048) :
    k0_pay1 (F := Ideal) x (ix2 t i) = x (ix2 t i) := by pointwise [k0_pay1]

/-- The widened activation codes are the codes. -/
theorem pay3_apply (x : Vec Ideal S1024x2048 .fp8e4m3) (t : Fin 1024) (i : Fin 2048) :
    k0_pay3 (F := Ideal) x (ix2 t i) = x (ix2 t i) := by pointwise [k0_pay3]

/-- The zero the running gradient starts from. -/
theorem pay14_apply (t : Fin 1024) (i : Fin 2048) : k0_pay14 (F := Ideal) (ix2 t i) = 0 := by pointwise [k0_pay14]

/-- The zero the running adapter product starts from. -/
theorem pay15_apply (r : Fin 8) (t : Fin 1024) : k0_pay15 (F := Ideal) (ix2 r t) = 0 := by pointwise [k0_pay15]

/-- The output gradient times magnitude over norm. -/
theorem pay48_apply (n mg : Vec Ideal S1x512 .f32) (dy : Vec Ideal S1024x512 .bf16) (t : Fin 1024) (o : Fin 512) :
    k0_pay48 (F := Ideal) n mg dy (ix2 t o) = dy (ix2 t o) * Ideal.div (mg (ix2 0 o)) (n (ix2 0 o)) := by
  pointwise [k0_pay48, k0_pay46, k0_pay47]

/-- A column block's part of the input gradient, added to what was there. -/
theorem pay51_apply (d : Vec Ideal S1024x512 .bf16) (acc : Vec Ideal S1024x2048 .f32) (v : Vec Ideal S2048x512 .bf16)
    (t : Fin 1024) (i : Fin 2048) :
    k0_pay51 (F := Ideal) d acc v (ix2 t i) = acc (ix2 t i) + ∑ k : Fin 512, d (ix2 t k) * v (ix2 i k) := by
  pointwise [k0_pay51]

/-- A column block's part of the adapter product, added to what was there. -/
theorem pay52_apply (d : Vec Ideal S1024x512 .bf16) (ht : Vec Ideal S8x1024 .f32) (b : Vec Ideal S8x512 .bf16)
    (r : Fin 8) (t : Fin 1024) :
    k0_pay52 (F := Ideal) d ht b (ix2 r t) = ht (ix2 r t) + ∑ k : Fin 512, b (ix2 r k) * d (ix2 t k) := by
  pointwise [k0_pay52]

/-- The second factor's gradient in one column block. -/
theorem pay53_apply (d : Vec Ideal S1024x512 .bf16) (xat : Vec Ideal S8x1024 .bf16) (r : Fin 8) (o : Fin 512) :
    k0_pay53 (F := Ideal) d xat (ix2 r o) = half * ∑ t : Fin 1024, xat (ix2 r t) * d (ix2 t o) := by
  pointwise [k0_pay53]

/-- The activations through the first factor, transposed. -/
theorem pay13_apply (xc : Vec Ideal S1024x2048 .bf16) (a : Vec Ideal S2048x8 .bf16) (s : Vec Ideal S1024x1 .f32)
    (r : Fin 8) (t : Fin 1024) :
    k0_pay13 (F := Ideal) (k0_pay12 xc a s) (ix2 r t)
      = (∑ i : Fin 2048, xc (ix2 t i) * a (ix2 i r)) * s (ix2 t 0) := by
  pointwise [k0_pay13, k0_pay12]

/-- The first factor's gradient. -/
theorem pay2_apply (xc : Vec Ideal S1024x2048 .bf16) (s : Vec Ideal S1024x1 .f32) (ht : Vec Ideal S8x1024 .f32)
    (i : Fin 2048) (r : Fin 8) :
    k0_pay2 (F := Ideal) xc s ht (ix2 i r)
      = half * ∑ t : Fin 1024, ht (ix2 r t) * (xc (ix2 t i) * s (ix2 t 0)) := by
  pointwise [k0_pay2]

/-- The magnitudes' gradient in one column block. -/
theorem pay50_apply (n : Vec Ideal S1x512 .f32) (dy : Vec Ideal S1024x512 .bf16) (xc : Vec Ideal S1024x2048 .bf16)
    (v : Vec Ideal S2048x512 .bf16) (s : Vec Ideal S1024x128 .f32) (s0 : Fin 1024 → EReal)
    (hs : ∀ t (l : Fin 128), s (ix2 t l) = s0 t) (o : Fin 512) :
    k0_pay50 (F := Ideal) (k0_pay46 n) (k0_pay47 dy) (k0_pay49 xc v) s (ix2 0 o)
      = Ideal.div (∑ t : Fin 1024, dy (ix2 t o) * ((∑ i : Fin 2048, xc (ix2 t i) * v (ix2 i o)) * s0 t)) (n (ix2 0 o)) := by
  pointwise [k0_pay50, k0_pay46, k0_pay47, k0_pay49]
  simp only [hs, ite_self, dite_eq_ite]

end Cert.Dora

end
-- ==== Proof.Blocks.lean ====
/-
  The kernel's inputs as `Inputs`, and its windows' blocks read at an index: point `t` reads the columns
  512·t … 512·t + 511 of the output gradient, of the packed weights, of their scales, of `B` and of the two column
  vectors, and the whole of the activations, of their scales and of `A`.
-/
module

public import proofs.«01_k».proof.Proof.KernelPoint
public import proofs.«01_k».proof.Proof.Gen.KernelIdeal.Frame
public import Idealize.ShloMosaic.Lib.Pipeline.ValueKit

@[expose] public section

set_option maxRecDepth 16384

noncomputable section

namespace Cert.Dora

open Idealize.ShloMosaic Idealize.ShloMosaic.TcCoe Idealize.SL.Sem
open Cert.KernelIdeal Cert.KernelIdeal.Gen
open scoped BigOperators

variable (m : (ℓ : Loc nD τ sig) → Buf (Elt Ideal) ℓ) (c : Dev nD)

/-- The kernel's operands as the problem's inputs, the reshaped ones as the region finds them. -/
def kin : Inputs where
  dy t o := (V m c main_v0 : Vec Ideal S1024x5632 .bf16) (ix2 t o)
  xq t i := (V m c main_v1 : Vec Ideal S1024x2048 .fp8e4m3) (ix2 t i)
  xs t := (V m c main_arg2 : Vec Ideal S4x256 .f32) (ix2 ⟨t.val / 256, by omega⟩ ⟨t.val % 256, by omega⟩)
  wq j o := (V m c main_arg3 : Vec Ideal S1024x5632 .i8) (ix2 j o)
  ws g o := (V m c main_arg4 : Vec Ideal S16x5632 .bf16) (ix2 g o)
  a i r := (V m c main_arg5 : Vec Ideal S2048x8 .bf16) (ix2 i r)
  b r o := (V m c main_arg6 : Vec Ideal S8x5632 .bf16) (ix2 r o)
  mag o := (V m c main_v2 : Vec Ideal S1x5632 .f32) (ix2 0 o)
  nrm o := (V m c main_v3 : Vec Ideal S1x5632 .f32) (ix2 0 o)

/-- The windows' index maps, point by point. -/
theorem idx : ∀ t : Fin cfg0.N, win0_0.index t = ![0, t.val] ∧ win0_1.index t = ![0, 0] ∧ win0_2.index t = ![0, 0]
    ∧ win0_3.index t = ![0, t.val] ∧ win0_4.index t = ![0, t.val] ∧ win0_5.index t = ![0, 0] ∧ win0_6.index t = ![0, t.val]
    ∧ win0_7.index t = ![0, t.val] ∧ win0_8.index t = ![0, t.val] :=
  (by decide +kernel : ∀ t : Fin grid0.N, _)

/-- The column of the whole array that column `k` of point `t`'s block is. -/
def col (t : Fin cfg0.N) (k : Fin 512) : Fin 5632 :=
  ⟨512 * t.val + k.val, by have : t.val < 11 := lt_of_lt_of_eq t.isLt (show cfg0.N = 11 from N_0); omega⟩

/-- Window 0's block. -/
theorem blk0 (t : Fin cfg0.N) (x : Fin 1024) (k : Fin 512) :
    (iblk m c 0 t : Vec Ideal S1024x512 .bf16) (ix2 x k) = (kin m c).dy x (col t k) := by
  unfold kin col
  blk_ext [iblk, idx t]

/-- Window 1's block. -/
theorem blk1 (t : Fin cfg0.N) (x : Fin 1024) (k : Fin 2048) :
    (iblk m c 1 t : Vec Ideal S1024x2048 .fp8e4m3) (ix2 x k) = (kin m c).xq x k := by
  unfold kin
  blk_ext [iblk, idx t]

/-- Window 3's block. -/
theorem blk3 (t : Fin cfg0.N) (x : Fin 1024) (k : Fin 512) :
    (iblk m c 3 t : Vec Ideal S1024x512 .i8) (ix2 x k) = (kin m c).wq x (col t k) := by
  unfold kin col
  blk_ext [iblk, idx t]

/-- Window 4's block. -/
theorem blk4 (t : Fin cfg0.N) (x : Fin 16) (k : Fin 512) :
    (iblk m c 4 t : Vec Ideal S16x512 .bf16) (ix2 x k) = (kin m c).ws x (col t k) := by
  unfold kin col
  blk_ext [iblk, idx t]

/-- Window 5's block. -/
theorem blk5 (t : Fin cfg0.N) (x : Fin 2048) (k : Fin 8) :
    (iblk m c 5 t : Vec Ideal S2048x8 .bf16) (ix2 x k) = (kin m c).a x k := by
  unfold kin
  blk_ext [iblk, idx t]

/-- Window 6's block. -/
theorem blk6 (t : Fin cfg0.N) (x : Fin 8) (k : Fin 512) :
    (iblk m c 6 t : Vec Ideal S8x512 .bf16) (ix2 x k) = (kin m c).b x (col t k) := by
  unfold kin col
  blk_ext [iblk, idx t]

/-- Window 7's block. -/
theorem blk7 (t : Fin cfg0.N) (k : Fin 512) :
    (iblk m c 7 t : Vec Ideal S1x512 .f32) (ix2 0 k) = (kin m c).mag (col t k) := by
  unfold kin col
  blk_ext [iblk, idx t]

/-- Window 8's block. -/
theorem blk8 (t : Fin cfg0.N) (k : Fin 512) :
    (iblk m c 8 t : Vec Ideal S1x512 .f32) (ix2 0 k) = (kin m c).nrm (col t k) := by
  unfold kin col
  blk_ext [iblk, idx t]

/-- Window 2's block. -/
theorem blk2 (t : Fin cfg0.N) (x : Fin 4) (k : Fin 256) :
    (iblk m c 2 t : Vec Ideal S4x256 .f32) (ix2 x k) = (V m c main_arg2 : Vec Ideal S4x256 .f32) (ix2 x k) := by
  blk_ext [iblk, idx t]

/-- The scale column holds each token's scale. -/
theorem scol_apply (t : Fin cfg0.N) (x : Fin 1024) (l : Fin 128) : scolF (iblk m c 2 t) (ix2 x l) = (kin m c).xs x :=
  blk2 m c t _ _

/-- The weight block holds the adapted weight's columns. -/
theorem v_apply (t : Fin cfg0.N) (i : Fin 2048) (k : Fin 512) :
    vblk (iblk m c 3 t) (iblk m c 4 t) (iblk m c 5 t) (iblk m c 6 t) (ix2 i k) = (kin m c).v i (col t k) := by
  unfold vblk Inputs.v
  refine congrArg₂ (· + ·) (congrArg₂ (fun x y => nib x (i.val % 2) * y) (blk3 m c t _ k) (blk4 m c t _ k)) ?_
  refine congrArg (half * ·) (Finset.sum_congr rfl fun r _ => congrArg₂ (· * ·) (blk5 m c t i r) (blk6 m c t r k))

/-- The scaled output gradient of the block. -/
theorem dyp_apply (t : Fin cfg0.N) (x : Fin 1024) (k : Fin 512) :
    k0_pay48 (F := Ideal) (iblk m c 8 t) (iblk m c 7 t) (iblk m c 0 t) (ix2 x k) = (kin m c).dyp x (col t k) := by
  rw [pay48_apply]
  exact congrArg₂ (· * ·) (blk0 m c t x k) (congrArg₂ Ideal.div (blk7 m c t k) (blk8 m c t k))

end Cert.Dora

end
-- ==== Proof.CaseA.lean ====
/-
  What the kernel's body leaves at the first point (column block 0), called kind A below: its two outputs of that block and
  the kept operands and both running sums, each as one expression over the point's input blocks.
-/
module

public import proofs.«01_k».proof.Proof.Pieces
public import proofs.«01_k».proof.Proof.Gen.KernelIdeal.Frame

@[expose] public section

set_option maxRecDepth 16384

noncomputable section

namespace Cert.Dora

open Idealize.ShloMosaic Idealize.ShloMosaic.TcCoe Idealize.SL.Sem
open Cert.KernelIdeal Cert.KernelIdeal.Gen

variable (c : Dev nD) (i : grid0.Coords) (arg1 : Memref sig .tc .vmem S1024x512 .bf16) (harg1 : arg1.IsWhole) (arg2 : Memref sig .tc .vmem S1024x2048 .fp8e4m3) (harg2 : arg2.IsWhole) (arg3 : Memref sig .tc .vmem S4x256 .f32) (harg3 : arg3.IsWhole) (arg4 : Memref sig .tc .vmem S1024x512 .i8) (harg4 : arg4.IsWhole) (arg5 : Memref sig .tc .vmem S16x512 .bf16) (harg5 : arg5.IsWhole) (arg6 : Memref sig .tc .vmem S2048x8 .bf16) (harg6 : arg6.IsWhole) (arg7 : Memref sig .tc .vmem S8x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x2048 .bf16) (harg10 : arg10.IsWhole) (arg11 : Memref sig .tc .vmem S2048x8 .bf16) (harg11 : arg11.IsWhole) (arg12 : Memref sig .tc .vmem S8x512 .bf16) (harg12 : arg12.IsWhole) (arg13 : Memref sig .tc .vmem S1x512 .f32) (harg13 : arg13.IsWhole) (arg14 : Memref sig .tc .vmem S1024x2048 .bf16) (harg14 : arg14.IsWhole) (arg15 : Memref sig .tc .vmem S8x1024 .bf16) (harg15 : arg15.IsWhole) (arg16 : Memref sig .tc .vmem S1024x128 .f32) (harg16 : arg16.IsWhole) (arg17 : Memref sig .tc .vmem S2048x512 .bf16) (harg17 : arg17.IsWhole) (arg18 : Memref sig .tc .vmem S1024x2048 .f32) (harg18 : arg18.IsWhole) (arg19 : Memref sig .tc .vmem S8x1024 .f32) (harg19 : arg19.IsWhole) (hc0 : cond0_0 i) (hc1 : ¬cond0_1 i)
variable (x0 : Vec Ideal S1024x512 .bf16) (x1 : Vec Ideal S1024x2048 .fp8e4m3) (x2 : Vec Ideal S4x256 .f32) (x3 : Vec Ideal S1024x512 .i8) (x4 : Vec Ideal S16x512 .bf16) (x5 : Vec Ideal S2048x8 .bf16) (x6 : Vec Ideal S8x512 .bf16) (x7 : Vec Ideal S1x512 .f32) (x8 : Vec Ideal S1x512 .f32)

set_option maxHeartbeats 400000 in
/-- The `B`-gradient block, at a point of kind A. -/
theorem out0_A_11_eq : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8
    = k0_pay53 (k0_pay48 x8 x7 x0) (k0_pay13 (k0_pay12 (k0_pay3 x1) x5 (colOf (scolF x2)))) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8)]
  unfold kernelRun0_A
  dsimp only
  sl_unfold_words
  simp only [View.canon_unit_zero (S := S1024x2048) hz, View.canon_unit_zero (S := S8x1024) hz, View.canon_unit_zero (S := S8x512) hz, View.canon_unit_zero (S := S1x512) hz, View.canon_unit_zero (S := S2048x8) hz, View.canon_cons_unit_zero (S := S1024x2048) hz, View.canon_cons_unit_zero (S := S8x1024) hz,
    readCov_ld, View.readAt_eq_ld, Memref.IsWhole.read_unread,
    View.ld_unit_zero (S := S1024x512) hz, View.ld_unit_zero (S := S1024x2048) hz, View.ld_unit_zero (S := S2048x8) hz, View.ld_unit_zero (S := S8x512) hz, View.ld_unit_zero (S := S1x512) hz, View.ld_unit_zero (S := S2048x512) hz, View.ld_unit_zero (S := S8x1024) hz, View.ld_unit_zero (S := S1024x128) hz]
  simp only [square1_eq, square2_eq, square3_eq, square4_eq, square5_eq, square6_eq, square7_eq]
  rw [canon_squares (scolF x2)]
  · rw [ld_col]
  · intro i o
    refine square_block 0 0 0 (by decide) (by decide) (by decide) x2 _ ?_ i o
    exact (fun o => congrArg x2 (idx_cols (R := 4) (C := 256) (H := 1) (n := 0) (k := 0) _ (by decide) (by decide) 0 o))
  · intro i o
    refine square_block 128 0 128 (by decide) (by decide) (by decide) x2 _ ?_ i o
    exact (fun o => congrArg x2 (idx_cols (R := 4) (C := 256) (H := 1) (n := 0) (k := 128) _ (by decide) (by decide) 0 o))
  · intro i o
    refine square_block 256 1 0 (by decide) (by decide) (by decide) x2 _ ?_ i o
    exact (fun o => congrArg x2 (idx_cols (R := 4) (C := 256) (H := 1) (n := 1) (k := 0) _ (by decide) (by decide) 0 o))
  · intro i o
    refine square_block 384 1 128 (by decide) (by decide) (by decide) x2 _ ?_ i o
    exact (fun o => congrArg x2 (idx_cols (R := 4) (C := 256) (H := 1) (n := 1) (k := 128) _ (by decide) (by decide) 0 o))
  · intro i o
    refine square_block 512 2 0 (by decide) (by decide) (by decide) x2 _ ?_ i o
    exact (fun o => congrArg x2 (idx_cols (R := 4) (C := 256) (H := 1) (n := 2) (k := 0) _ (by decide) (by decide) 0 o))
  · intro i o
    refine square_block 640 2 128 (by decide) (by decide) (by decide) x2 _ ?_ i o
    exact (fun o => congrArg x2 (idx_cols (R := 4) (C := 256) (H := 1) (n := 2) (k := 128) _ (by decide) (by decide) 0 o))
  · intro i o
    refine square_block 768 3 0 (by decide) (by decide) (by decide) x2 _ ?_ i o
    exact (fun o => congrArg x2 (idx_cols (R := 4) (C := 256) (H := 1) (n := 3) (k := 0) _ (by decide) (by decide) 0 o))
  · intro i o
    refine square_block 896 3 128 (by decide) (by decide) (by decide) x2 _ ?_ i o
    exact (fun o => congrArg x2 (idx_cols (R := 4) (C := 256) (H := 1) (n := 3) (k := 128) _ (by decide) (by decide) 0 o))

set_option maxHeartbeats 400000 in
/-- The magnitude-gradient block, at a point of kind A. -/
theorem out0_A_12_eq : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8
    = k0_pay50 (k0_pay46 x8) (k0_pay47 x0) (k0_pay49 (k0_pay3 x1) (vblk x3 x4 x5 x6)) (scolF x2) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8)]
  unfold kernelRun0_A
  dsimp only
  sl_unfold_words
  simp only [View.canon_unit_zero (S := S1024x2048) hz, View.canon_unit_zero (S := S8x1024) hz, View.canon_unit_zero (S := S8x512) hz, View.canon_unit_zero (S := S1x512) hz, View.canon_unit_zero (S := S2048x8) hz, View.canon_cons_unit_zero (S := S1024x2048) hz, View.canon_cons_unit_zero (S := S8x1024) hz,
    readCov_ld, View.readAt_eq_ld, Memref.IsWhole.read_unread,
    View.ld_unit_zero (S := S1024x512) hz, View.ld_unit_zero (S := S1024x2048) hz, View.ld_unit_zero (S := S2048x8) hz, View.ld_unit_zero (S := S8x512) hz, View.ld_unit_zero (S := S1x512) hz, View.ld_unit_zero (S := S2048x512) hz, View.ld_unit_zero (S := S8x1024) hz, View.ld_unit_zero (S := S1024x128) hz]
  simp only [group1_eq, group2_eq, group3_eq, group4_eq, group5_eq, group6_eq, group7_eq, group8_eq, group9_eq, group10_eq, group11_eq, group12_eq, group13_eq, group14_eq, group15_eq, square1_eq, square2_eq, square3_eq, square4_eq, square5_eq, square6_eq, square7_eq]
  rw [canon_squares (scolF x2)]
  rw [canon_groups (vblk x3 x4 x5 x6)]
  · intro i o
    exact group_block 0 0 0 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 1 64 128 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 2 128 256 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 3 192 384 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 4 256 512 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 5 320 640 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 6 384 768 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 7 448 896 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 8 512 1024 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 9 576 1152 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 10 640 1280 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 11 704 1408 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 12 768 1536 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 13 832 1664 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 14 896 1792 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 15 960 1920 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    refine square_block 0 0 0 (by decide) (by decide) (by decide) x2 _ ?_ i o
    exact (fun o => congrArg x2 (idx_cols (R := 4) (C := 256) (H := 1) (n := 0) (k := 0) _ (by decide) (by decide) 0 o))
  · intro i o
    refine square_block 128 0 128 (by decide) (by decide) (by decide) x2 _ ?_ i o
    exact (fun o => congrArg x2 (idx_cols (R := 4) (C := 256) (H := 1) (n := 0) (k := 128) _ (by decide) (by decide) 0 o))
  · intro i o
    refine square_block 256 1 0 (by decide) (by decide) (by decide) x2 _ ?_ i o
    exact (fun o => congrArg x2 (idx_cols (R := 4) (C := 256) (H := 1) (n := 1) (k := 0) _ (by decide) (by decide) 0 o))
  · intro i o
    refine square_block 384 1 128 (by decide) (by decide) (by decide) x2 _ ?_ i o
    exact (fun o => congrArg x2 (idx_cols (R := 4) (C := 256) (H := 1) (n := 1) (k := 128) _ (by decide) (by decide) 0 o))
  · intro i o
    refine square_block 512 2 0 (by decide) (by decide) (by decide) x2 _ ?_ i o
    exact (fun o => congrArg x2 (idx_cols (R := 4) (C := 256) (H := 1) (n := 2) (k := 0) _ (by decide) (by decide) 0 o))
  · intro i o
    refine square_block 640 2 128 (by decide) (by decide) (by decide) x2 _ ?_ i o
    exact (fun o => congrArg x2 (idx_cols (R := 4) (C := 256) (H := 1) (n := 2) (k := 128) _ (by decide) (by decide) 0 o))
  · intro i o
    refine square_block 768 3 0 (by decide) (by decide) (by decide) x2 _ ?_ i o
    exact (fun o => congrArg x2 (idx_cols (R := 4) (C := 256) (H := 1) (n := 3) (k := 0) _ (by decide) (by decide) 0 o))
  · intro i o
    refine square_block 896 3 128 (by decide) (by decide) (by decide) x2 _ ?_ i o
    exact (fun o => congrArg x2 (idx_cols (R := 4) (C := 256) (H := 1) (n := 3) (k := 128) _ (by decide) (by decide) 0 o))

set_option maxHeartbeats 400000 in
/-- The running input gradient, at a point of kind A. -/
theorem sout0_A_4_eq : sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8
    = k0_pay51 (k0_pay48 x8 x7 x0) (k0_pay14 (F := Ideal)) (vblk x3 x4 x5 x6) := by
  unfold sout0_A_4
  rw [View.read_writes_eq_canon _ _ _ (scover0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8)]
  unfold kernelRun0_A
  dsimp only
  sl_unfold_words
  simp only [View.canon_unit_zero (S := S1024x2048) hz, View.canon_unit_zero (S := S8x1024) hz, View.canon_unit_zero (S := S8x512) hz, View.canon_unit_zero (S := S1x512) hz, View.canon_unit_zero (S := S2048x8) hz, View.canon_cons_unit_zero (S := S1024x2048) hz, View.canon_cons_unit_zero (S := S8x1024) hz,
    readCov_ld, View.readAt_eq_ld, Memref.IsWhole.read_unread,
    View.ld_unit_zero (S := S1024x512) hz, View.ld_unit_zero (S := S1024x2048) hz, View.ld_unit_zero (S := S2048x8) hz, View.ld_unit_zero (S := S8x512) hz, View.ld_unit_zero (S := S1x512) hz, View.ld_unit_zero (S := S2048x512) hz, View.ld_unit_zero (S := S8x1024) hz, View.ld_unit_zero (S := S1024x128) hz]
  simp only [group1_eq, group2_eq, group3_eq, group4_eq, group5_eq, group6_eq, group7_eq, group8_eq, group9_eq, group10_eq, group11_eq, group12_eq, group13_eq, group14_eq, group15_eq]
  rw [canon_groups (vblk x3 x4 x5 x6)]
  · intro i o
    exact group_block 0 0 0 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 1 64 128 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 2 128 256 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 3 192 384 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 4 256 512 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 5 320 640 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 6 384 768 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 7 448 896 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 8 512 1024 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 9 576 1152 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 10 640 1280 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 11 704 1408 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 12 768 1536 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 13 832 1664 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 14 896 1792 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 15 960 1920 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o

set_option maxHeartbeats 400000 in
/-- The running adapter product, at a point of kind A. -/
theorem sout0_A_5_eq : sout0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8
    = k0_pay52 (k0_pay48 x8 x7 x0) (k0_pay15 (F := Ideal)) x6 := by
  unfold sout0_A_5
  rw [View.read_writes_eq_canon _ _ _ (scover0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8)]
  unfold kernelRun0_A
  dsimp only
  sl_unfold_words
  simp only [View.canon_unit_zero (S := S1024x2048) hz, View.canon_unit_zero (S := S8x1024) hz, View.canon_unit_zero (S := S8x512) hz, View.canon_unit_zero (S := S1x512) hz, View.canon_unit_zero (S := S2048x8) hz, View.canon_cons_unit_zero (S := S1024x2048) hz, View.canon_cons_unit_zero (S := S8x1024) hz,
    readCov_ld, View.readAt_eq_ld, Memref.IsWhole.read_unread,
    View.ld_unit_zero (S := S1024x512) hz, View.ld_unit_zero (S := S1024x2048) hz, View.ld_unit_zero (S := S2048x8) hz, View.ld_unit_zero (S := S8x512) hz, View.ld_unit_zero (S := S1x512) hz, View.ld_unit_zero (S := S2048x512) hz, View.ld_unit_zero (S := S8x1024) hz, View.ld_unit_zero (S := S1024x128) hz]

set_option maxHeartbeats 400000 in
/-- The widened activations, at a point of kind A. -/
theorem sout0_A_0_eq : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8
    = k0_pay3 x1 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8)]
  unfold kernelRun0_A
  dsimp only
  sl_unfold_words
  simp only [View.canon_unit_zero (S := S1024x2048) hz, View.canon_unit_zero (S := S8x1024) hz, View.canon_unit_zero (S := S8x512) hz, View.canon_unit_zero (S := S1x512) hz, View.canon_unit_zero (S := S2048x8) hz, View.canon_cons_unit_zero (S := S1024x2048) hz, View.canon_cons_unit_zero (S := S8x1024) hz,
    readCov_ld, View.readAt_eq_ld, Memref.IsWhole.read_unread,
    View.ld_unit_zero (S := S1024x512) hz, View.ld_unit_zero (S := S1024x2048) hz, View.ld_unit_zero (S := S2048x8) hz, View.ld_unit_zero (S := S8x512) hz, View.ld_unit_zero (S := S1x512) hz, View.ld_unit_zero (S := S2048x512) hz, View.ld_unit_zero (S := S8x1024) hz, View.ld_unit_zero (S := S1024x128) hz]

set_option maxHeartbeats 400000 in
/-- The scaled product of the activations with `A`, at a point of kind A. -/
theorem sout0_A_1_eq : sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8
    = k0_pay13 (k0_pay12 (k0_pay3 x1) x5 (colOf (scolF x2))) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8)]
  unfold kernelRun0_A
  dsimp only
  sl_unfold_words
  simp only [View.canon_unit_zero (S := S1024x2048) hz, View.canon_unit_zero (S := S8x1024) hz, View.canon_unit_zero (S := S8x512) hz, View.canon_unit_zero (S := S1x512) hz, View.canon_unit_zero (S := S2048x8) hz, View.canon_cons_unit_zero (S := S1024x2048) hz, View.canon_cons_unit_zero (S := S8x1024) hz,
    readCov_ld, View.readAt_eq_ld, Memref.IsWhole.read_unread,
    View.ld_unit_zero (S := S1024x512) hz, View.ld_unit_zero (S := S1024x2048) hz, View.ld_unit_zero (S := S2048x8) hz, View.ld_unit_zero (S := S8x512) hz, View.ld_unit_zero (S := S1x512) hz, View.ld_unit_zero (S := S2048x512) hz, View.ld_unit_zero (S := S8x1024) hz, View.ld_unit_zero (S := S1024x128) hz]
  simp only [square1_eq, square2_eq, square3_eq, square4_eq, square5_eq, square6_eq, square7_eq]
  rw [canon_squares (scolF x2)]
  · rw [ld_col]
  · intro i o
    refine square_block 0 0 0 (by decide) (by decide) (by decide) x2 _ ?_ i o
    exact (fun o => congrArg x2 (idx_cols (R := 4) (C := 256) (H := 1) (n := 0) (k := 0) _ (by decide) (by decide) 0 o))
  · intro i o
    refine square_block 128 0 128 (by decide) (by decide) (by decide) x2 _ ?_ i o
    exact (fun o => congrArg x2 (idx_cols (R := 4) (C := 256) (H := 1) (n := 0) (k := 128) _ (by decide) (by decide) 0 o))
  · intro i o
    refine square_block 256 1 0 (by decide) (by decide) (by decide) x2 _ ?_ i o
    exact (fun o => congrArg x2 (idx_cols (R := 4) (C := 256) (H := 1) (n := 1) (k := 0) _ (by decide) (by decide) 0 o))
  · intro i o
    refine square_block 384 1 128 (by decide) (by decide) (by decide) x2 _ ?_ i o
    exact (fun o => congrArg x2 (idx_cols (R := 4) (C := 256) (H := 1) (n := 1) (k := 128) _ (by decide) (by decide) 0 o))
  · intro i o
    refine square_block 512 2 0 (by decide) (by decide) (by decide) x2 _ ?_ i o
    exact (fun o => congrArg x2 (idx_cols (R := 4) (C := 256) (H := 1) (n := 2) (k := 0) _ (by decide) (by decide) 0 o))
  · intro i o
    refine square_block 640 2 128 (by decide) (by decide) (by decide) x2 _ ?_ i o
    exact (fun o => congrArg x2 (idx_cols (R := 4) (C := 256) (H := 1) (n := 2) (k := 128) _ (by decide) (by decide) 0 o))
  · intro i o
    refine square_block 768 3 0 (by decide) (by decide) (by decide) x2 _ ?_ i o
    exact (fun o => congrArg x2 (idx_cols (R := 4) (C := 256) (H := 1) (n := 3) (k := 0) _ (by decide) (by decide) 0 o))
  · intro i o
    refine square_block 896 3 128 (by decide) (by decide) (by decide) x2 _ ?_ i o
    exact (fun o => congrArg x2 (idx_cols (R := 4) (C := 256) (H := 1) (n := 3) (k := 128) _ (by decide) (by decide) 0 o))

set_option maxHeartbeats 400000 in
/-- The scale column, at a point of kind A. -/
theorem sout0_A_2_eq : sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8
    = scolF x2 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8)]
  unfold kernelRun0_A
  dsimp only
  sl_unfold_words
  simp only [View.canon_unit_zero (S := S1024x2048) hz, View.canon_unit_zero (S := S8x1024) hz, View.canon_unit_zero (S := S8x512) hz, View.canon_unit_zero (S := S1x512) hz, View.canon_unit_zero (S := S2048x8) hz, View.canon_cons_unit_zero (S := S1024x2048) hz, View.canon_cons_unit_zero (S := S8x1024) hz,
    readCov_ld, View.readAt_eq_ld, Memref.IsWhole.read_unread,
    View.ld_unit_zero (S := S1024x512) hz, View.ld_unit_zero (S := S1024x2048) hz, View.ld_unit_zero (S := S2048x8) hz, View.ld_unit_zero (S := S8x512) hz, View.ld_unit_zero (S := S1x512) hz, View.ld_unit_zero (S := S2048x512) hz, View.ld_unit_zero (S := S8x1024) hz, View.ld_unit_zero (S := S1024x128) hz]
  simp only [square1_eq, square2_eq, square3_eq, square4_eq, square5_eq, square6_eq, square7_eq]
  rw [canon_squares (scolF x2)]
  · intro i o
    refine square_block 0 0 0 (by decide) (by decide) (by decide) x2 _ ?_ i o
    exact (fun o => congrArg x2 (idx_cols (R := 4) (C := 256) (H := 1) (n := 0) (k := 0) _ (by decide) (by decide) 0 o))
  · intro i o
    refine square_block 128 0 128 (by decide) (by decide) (by decide) x2 _ ?_ i o
    exact (fun o => congrArg x2 (idx_cols (R := 4) (C := 256) (H := 1) (n := 0) (k := 128) _ (by decide) (by decide) 0 o))
  · intro i o
    refine square_block 256 1 0 (by decide) (by decide) (by decide) x2 _ ?_ i o
    exact (fun o => congrArg x2 (idx_cols (R := 4) (C := 256) (H := 1) (n := 1) (k := 0) _ (by decide) (by decide) 0 o))
  · intro i o
    refine square_block 384 1 128 (by decide) (by decide) (by decide) x2 _ ?_ i o
    exact (fun o => congrArg x2 (idx_cols (R := 4) (C := 256) (H := 1) (n := 1) (k := 128) _ (by decide) (by decide) 0 o))
  · intro i o
    refine square_block 512 2 0 (by decide) (by decide) (by decide) x2 _ ?_ i o
    exact (fun o => congrArg x2 (idx_cols (R := 4) (C := 256) (H := 1) (n := 2) (k := 0) _ (by decide) (by decide) 0 o))
  · intro i o
    refine square_block 640 2 128 (by decide) (by decide) (by decide) x2 _ ?_ i o
    exact (fun o => congrArg x2 (idx_cols (R := 4) (C := 256) (H := 1) (n := 2) (k := 128) _ (by decide) (by decide) 0 o))
  · intro i o
    refine square_block 768 3 0 (by decide) (by decide) (by decide) x2 _ ?_ i o
    exact (fun o => congrArg x2 (idx_cols (R := 4) (C := 256) (H := 1) (n := 3) (k := 0) _ (by decide) (by decide) 0 o))
  · intro i o
    refine square_block 896 3 128 (by decide) (by decide) (by decide) x2 _ ?_ i o
    exact (fun o => congrArg x2 (idx_cols (R := 4) (C := 256) (H := 1) (n := 3) (k := 128) _ (by decide) (by decide) 0 o))

end Cert.Dora
end
-- ==== Proof.CaseB.lean ====
/-
  What the kernel's body leaves at the points between the first and the last (column blocks 1 … 9), called kind B below: its two outputs of that block and
  both running sums, each as one expression over the point's input blocks.
-/
module

public import proofs.«01_k».proof.Proof.Pieces
public import proofs.«01_k».proof.Proof.Gen.KernelIdeal.Frame

@[expose] public section

set_option maxRecDepth 16384

noncomputable section

namespace Cert.Dora

open Idealize.ShloMosaic Idealize.ShloMosaic.TcCoe Idealize.SL.Sem
open Cert.KernelIdeal Cert.KernelIdeal.Gen

variable (c : Dev nD) (i : grid0.Coords) (arg1 : Memref sig .tc .vmem S1024x512 .bf16) (harg1 : arg1.IsWhole) (arg2 : Memref sig .tc .vmem S1024x2048 .fp8e4m3) (harg2 : arg2.IsWhole) (arg3 : Memref sig .tc .vmem S4x256 .f32) (harg3 : arg3.IsWhole) (arg4 : Memref sig .tc .vmem S1024x512 .i8) (harg4 : arg4.IsWhole) (arg5 : Memref sig .tc .vmem S16x512 .bf16) (harg5 : arg5.IsWhole) (arg6 : Memref sig .tc .vmem S2048x8 .bf16) (harg6 : arg6.IsWhole) (arg7 : Memref sig .tc .vmem S8x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x2048 .bf16) (harg10 : arg10.IsWhole) (arg11 : Memref sig .tc .vmem S2048x8 .bf16) (harg11 : arg11.IsWhole) (arg12 : Memref sig .tc .vmem S8x512 .bf16) (harg12 : arg12.IsWhole) (arg13 : Memref sig .tc .vmem S1x512 .f32) (harg13 : arg13.IsWhole) (arg14 : Memref sig .tc .vmem S1024x2048 .bf16) (harg14 : arg14.IsWhole) (arg15 : Memref sig .tc .vmem S8x1024 .bf16) (harg15 : arg15.IsWhole) (arg16 : Memref sig .tc .vmem S1024x128 .f32) (harg16 : arg16.IsWhole) (arg17 : Memref sig .tc .vmem S2048x512 .bf16) (harg17 : arg17.IsWhole) (arg18 : Memref sig .tc .vmem S1024x2048 .f32) (harg18 : arg18.IsWhole) (arg19 : Memref sig .tc .vmem S8x1024 .f32) (harg19 : arg19.IsWhole) (hc0 : ¬cond0_0 i) (hc1 : ¬cond0_1 i)
variable (x0 : Vec Ideal S1024x512 .bf16) (x1 : Vec Ideal S1024x2048 .fp8e4m3) (x2 : Vec Ideal S4x256 .f32) (x3 : Vec Ideal S1024x512 .i8) (x4 : Vec Ideal S16x512 .bf16) (x5 : Vec Ideal S2048x8 .bf16) (x6 : Vec Ideal S8x512 .bf16) (x7 : Vec Ideal S1x512 .f32) (x8 : Vec Ideal S1x512 .f32) (xs0 : Vec Ideal S1024x2048 .bf16) (xs1 : Vec Ideal S8x1024 .bf16) (xs2 : Vec Ideal S1024x128 .f32) (xs4 : Vec Ideal S1024x2048 .f32) (xs5 : Vec Ideal S8x1024 .f32)

set_option maxHeartbeats 400000 in
/-- The `B`-gradient block, at a point of kind B. -/
theorem out0_B_11_eq : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs4 xs5
    = k0_pay53 (k0_pay48 x8 x7 x0) xs1 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs4 xs5)]
  unfold kernelRun0_B
  dsimp only
  sl_unfold_words
  simp only [View.canon_unit_zero (S := S1024x2048) hz, View.canon_unit_zero (S := S8x1024) hz, View.canon_unit_zero (S := S8x512) hz, View.canon_unit_zero (S := S1x512) hz, View.canon_unit_zero (S := S2048x8) hz, View.canon_cons_unit_zero (S := S1024x2048) hz, View.canon_cons_unit_zero (S := S8x1024) hz,
    readCov_ld, View.readAt_eq_ld, Memref.IsWhole.read_unread,
    View.ld_unit_zero (S := S1024x512) hz, View.ld_unit_zero (S := S1024x2048) hz, View.ld_unit_zero (S := S2048x8) hz, View.ld_unit_zero (S := S8x512) hz, View.ld_unit_zero (S := S1x512) hz, View.ld_unit_zero (S := S2048x512) hz, View.ld_unit_zero (S := S8x1024) hz, View.ld_unit_zero (S := S1024x128) hz]

set_option maxHeartbeats 400000 in
/-- The magnitude-gradient block, at a point of kind B. -/
theorem out0_B_12_eq : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs4 xs5
    = k0_pay50 (k0_pay46 x8) (k0_pay47 x0) (k0_pay49 xs0 (vblk x3 x4 x5 x6)) xs2 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs4 xs5)]
  unfold kernelRun0_B
  dsimp only
  sl_unfold_words
  simp only [View.canon_unit_zero (S := S1024x2048) hz, View.canon_unit_zero (S := S8x1024) hz, View.canon_unit_zero (S := S8x512) hz, View.canon_unit_zero (S := S1x512) hz, View.canon_unit_zero (S := S2048x8) hz, View.canon_cons_unit_zero (S := S1024x2048) hz, View.canon_cons_unit_zero (S := S8x1024) hz,
    readCov_ld, View.readAt_eq_ld, Memref.IsWhole.read_unread,
    View.ld_unit_zero (S := S1024x512) hz, View.ld_unit_zero (S := S1024x2048) hz, View.ld_unit_zero (S := S2048x8) hz, View.ld_unit_zero (S := S8x512) hz, View.ld_unit_zero (S := S1x512) hz, View.ld_unit_zero (S := S2048x512) hz, View.ld_unit_zero (S := S8x1024) hz, View.ld_unit_zero (S := S1024x128) hz]
  simp only [group1_eq, group2_eq, group3_eq, group4_eq, group5_eq, group6_eq, group7_eq, group8_eq, group9_eq, group10_eq, group11_eq, group12_eq, group13_eq, group14_eq, group15_eq]
  rw [canon_groups (vblk x3 x4 x5 x6)]
  · intro i o
    exact group_block 0 0 0 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 1 64 128 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 2 128 256 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 3 192 384 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 4 256 512 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 5 320 640 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 6 384 768 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 7 448 896 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 8 512 1024 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 9 576 1152 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 10 640 1280 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 11 704 1408 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 12 768 1536 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 13 832 1664 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 14 896 1792 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 15 960 1920 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o

set_option maxHeartbeats 400000 in
/-- The running input gradient, at a point of kind B. -/
theorem sout0_B_4_eq : sout0_B_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs4 xs5
    = k0_pay51 (k0_pay48 x8 x7 x0) xs4 (vblk x3 x4 x5 x6) := by
  unfold sout0_B_4
  rw [View.read_writes_eq_canon _ _ _ (scover0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs4 xs5)]
  unfold kernelRun0_B
  dsimp only
  sl_unfold_words
  simp only [View.canon_unit_zero (S := S1024x2048) hz, View.canon_unit_zero (S := S8x1024) hz, View.canon_unit_zero (S := S8x512) hz, View.canon_unit_zero (S := S1x512) hz, View.canon_unit_zero (S := S2048x8) hz, View.canon_cons_unit_zero (S := S1024x2048) hz, View.canon_cons_unit_zero (S := S8x1024) hz,
    readCov_ld, View.readAt_eq_ld, Memref.IsWhole.read_unread,
    View.ld_unit_zero (S := S1024x512) hz, View.ld_unit_zero (S := S1024x2048) hz, View.ld_unit_zero (S := S2048x8) hz, View.ld_unit_zero (S := S8x512) hz, View.ld_unit_zero (S := S1x512) hz, View.ld_unit_zero (S := S2048x512) hz, View.ld_unit_zero (S := S8x1024) hz, View.ld_unit_zero (S := S1024x128) hz]
  simp only [group1_eq, group2_eq, group3_eq, group4_eq, group5_eq, group6_eq, group7_eq, group8_eq, group9_eq, group10_eq, group11_eq, group12_eq, group13_eq, group14_eq, group15_eq]
  rw [canon_groups (vblk x3 x4 x5 x6)]
  · intro i o
    exact group_block 0 0 0 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 1 64 128 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 2 128 256 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 3 192 384 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 4 256 512 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 5 320 640 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 6 384 768 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 7 448 896 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 8 512 1024 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 9 576 1152 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 10 640 1280 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 11 704 1408 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 12 768 1536 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 13 832 1664 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 14 896 1792 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 15 960 1920 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o

set_option maxHeartbeats 400000 in
/-- The running adapter product, at a point of kind B. -/
theorem sout0_B_5_eq : sout0_B_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs4 xs5
    = k0_pay52 (k0_pay48 x8 x7 x0) xs5 x6 := by
  unfold sout0_B_5
  rw [View.read_writes_eq_canon _ _ _ (scover0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs4 xs5)]
  unfold kernelRun0_B
  dsimp only
  sl_unfold_words
  simp only [View.canon_unit_zero (S := S1024x2048) hz, View.canon_unit_zero (S := S8x1024) hz, View.canon_unit_zero (S := S8x512) hz, View.canon_unit_zero (S := S1x512) hz, View.canon_unit_zero (S := S2048x8) hz, View.canon_cons_unit_zero (S := S1024x2048) hz, View.canon_cons_unit_zero (S := S8x1024) hz,
    readCov_ld, View.readAt_eq_ld, Memref.IsWhole.read_unread,
    View.ld_unit_zero (S := S1024x512) hz, View.ld_unit_zero (S := S1024x2048) hz, View.ld_unit_zero (S := S2048x8) hz, View.ld_unit_zero (S := S8x512) hz, View.ld_unit_zero (S := S1x512) hz, View.ld_unit_zero (S := S2048x512) hz, View.ld_unit_zero (S := S8x1024) hz, View.ld_unit_zero (S := S1024x128) hz]

end Cert.Dora
end
-- ==== Proof.CaseC.lean ====
/-
  What the kernel's body leaves at the last point (column block 10), called kind C below: its two outputs of that block and
  both running sums and the two outputs written only there, each as one expression over the point's input blocks.
-/
module

public import proofs.«01_k».proof.Proof.Pieces
public import proofs.«01_k».proof.Proof.Gen.KernelIdeal.Frame

@[expose] public section

set_option maxRecDepth 16384

noncomputable section

namespace Cert.Dora

open Idealize.ShloMosaic Idealize.ShloMosaic.TcCoe Idealize.SL.Sem
open Cert.KernelIdeal Cert.KernelIdeal.Gen

variable (c : Dev nD) (i : grid0.Coords) (arg1 : Memref sig .tc .vmem S1024x512 .bf16) (harg1 : arg1.IsWhole) (arg2 : Memref sig .tc .vmem S1024x2048 .fp8e4m3) (harg2 : arg2.IsWhole) (arg3 : Memref sig .tc .vmem S4x256 .f32) (harg3 : arg3.IsWhole) (arg4 : Memref sig .tc .vmem S1024x512 .i8) (harg4 : arg4.IsWhole) (arg5 : Memref sig .tc .vmem S16x512 .bf16) (harg5 : arg5.IsWhole) (arg6 : Memref sig .tc .vmem S2048x8 .bf16) (harg6 : arg6.IsWhole) (arg7 : Memref sig .tc .vmem S8x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x2048 .bf16) (harg10 : arg10.IsWhole) (arg11 : Memref sig .tc .vmem S2048x8 .bf16) (harg11 : arg11.IsWhole) (arg12 : Memref sig .tc .vmem S8x512 .bf16) (harg12 : arg12.IsWhole) (arg13 : Memref sig .tc .vmem S1x512 .f32) (harg13 : arg13.IsWhole) (arg14 : Memref sig .tc .vmem S1024x2048 .bf16) (harg14 : arg14.IsWhole) (arg15 : Memref sig .tc .vmem S8x1024 .bf16) (harg15 : arg15.IsWhole) (arg16 : Memref sig .tc .vmem S1024x128 .f32) (harg16 : arg16.IsWhole) (arg17 : Memref sig .tc .vmem S2048x512 .bf16) (harg17 : arg17.IsWhole) (arg18 : Memref sig .tc .vmem S1024x2048 .f32) (harg18 : arg18.IsWhole) (arg19 : Memref sig .tc .vmem S8x1024 .f32) (harg19 : arg19.IsWhole) (hc0 : ¬cond0_0 i) (hc1 : cond0_1 i)
variable (x0 : Vec Ideal S1024x512 .bf16) (x1 : Vec Ideal S1024x2048 .fp8e4m3) (x2 : Vec Ideal S4x256 .f32) (x3 : Vec Ideal S1024x512 .i8) (x4 : Vec Ideal S16x512 .bf16) (x5 : Vec Ideal S2048x8 .bf16) (x6 : Vec Ideal S8x512 .bf16) (x7 : Vec Ideal S1x512 .f32) (x8 : Vec Ideal S1x512 .f32) (xs0 : Vec Ideal S1024x2048 .bf16) (xs1 : Vec Ideal S8x1024 .bf16) (xs2 : Vec Ideal S1024x128 .f32) (xs4 : Vec Ideal S1024x2048 .f32) (xs5 : Vec Ideal S8x1024 .f32)

set_option maxHeartbeats 400000 in
/-- The `B`-gradient block, at a point of kind C. -/
theorem out0_C_11_eq : out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs4 xs5
    = k0_pay53 (k0_pay48 x8 x7 x0) xs1 := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs4 xs5)]
  unfold kernelRun0_C
  dsimp only
  sl_unfold_words
  simp only [View.canon_unit_zero (S := S1024x2048) hz, View.canon_unit_zero (S := S8x1024) hz, View.canon_unit_zero (S := S8x512) hz, View.canon_unit_zero (S := S1x512) hz, View.canon_unit_zero (S := S2048x8) hz, View.canon_cons_unit_zero (S := S1024x2048) hz, View.canon_cons_unit_zero (S := S8x1024) hz,
    readCov_ld, View.readAt_eq_ld, Memref.IsWhole.read_unread,
    View.ld_unit_zero (S := S1024x512) hz, View.ld_unit_zero (S := S1024x2048) hz, View.ld_unit_zero (S := S2048x8) hz, View.ld_unit_zero (S := S8x512) hz, View.ld_unit_zero (S := S1x512) hz, View.ld_unit_zero (S := S2048x512) hz, View.ld_unit_zero (S := S8x1024) hz, View.ld_unit_zero (S := S1024x128) hz]

set_option maxHeartbeats 400000 in
/-- The magnitude-gradient block, at a point of kind C. -/
theorem out0_C_12_eq : out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs4 xs5
    = k0_pay50 (k0_pay46 x8) (k0_pay47 x0) (k0_pay49 xs0 (vblk x3 x4 x5 x6)) xs2 := by
  unfold out0_C_12
  rw [View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs4 xs5)]
  unfold kernelRun0_C
  dsimp only
  sl_unfold_words
  simp only [View.canon_unit_zero (S := S1024x2048) hz, View.canon_unit_zero (S := S8x1024) hz, View.canon_unit_zero (S := S8x512) hz, View.canon_unit_zero (S := S1x512) hz, View.canon_unit_zero (S := S2048x8) hz, View.canon_cons_unit_zero (S := S1024x2048) hz, View.canon_cons_unit_zero (S := S8x1024) hz,
    readCov_ld, View.readAt_eq_ld, Memref.IsWhole.read_unread,
    View.ld_unit_zero (S := S1024x512) hz, View.ld_unit_zero (S := S1024x2048) hz, View.ld_unit_zero (S := S2048x8) hz, View.ld_unit_zero (S := S8x512) hz, View.ld_unit_zero (S := S1x512) hz, View.ld_unit_zero (S := S2048x512) hz, View.ld_unit_zero (S := S8x1024) hz, View.ld_unit_zero (S := S1024x128) hz]
  simp only [group1_eq, group2_eq, group3_eq, group4_eq, group5_eq, group6_eq, group7_eq, group8_eq, group9_eq, group10_eq, group11_eq, group12_eq, group13_eq, group14_eq, group15_eq]
  rw [canon_groups (vblk x3 x4 x5 x6)]
  · intro i o
    exact group_block 0 0 0 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 1 64 128 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 2 128 256 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 3 192 384 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 4 256 512 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 5 320 640 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 6 384 768 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 7 448 896 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 8 512 1024 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 9 576 1152 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 10 640 1280 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 11 704 1408 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 12 768 1536 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 13 832 1664 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 14 896 1792 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 15 960 1920 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o

set_option maxHeartbeats 400000 in
/-- The running input gradient, at a point of kind C. -/
theorem sout0_C_4_eq : sout0_C_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs4 xs5
    = k0_pay51 (k0_pay48 x8 x7 x0) xs4 (vblk x3 x4 x5 x6) := by
  unfold sout0_C_4
  rw [View.read_writes_eq_canon _ _ _ (scover0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs4 xs5)]
  unfold kernelRun0_C
  dsimp only
  sl_unfold_words
  simp only [View.canon_unit_zero (S := S1024x2048) hz, View.canon_unit_zero (S := S8x1024) hz, View.canon_unit_zero (S := S8x512) hz, View.canon_unit_zero (S := S1x512) hz, View.canon_unit_zero (S := S2048x8) hz, View.canon_cons_unit_zero (S := S1024x2048) hz, View.canon_cons_unit_zero (S := S8x1024) hz,
    readCov_ld, View.readAt_eq_ld, Memref.IsWhole.read_unread,
    View.ld_unit_zero (S := S1024x512) hz, View.ld_unit_zero (S := S1024x2048) hz, View.ld_unit_zero (S := S2048x8) hz, View.ld_unit_zero (S := S8x512) hz, View.ld_unit_zero (S := S1x512) hz, View.ld_unit_zero (S := S2048x512) hz, View.ld_unit_zero (S := S8x1024) hz, View.ld_unit_zero (S := S1024x128) hz]
  simp only [group1_eq, group2_eq, group3_eq, group4_eq, group5_eq, group6_eq, group7_eq, group8_eq, group9_eq, group10_eq, group11_eq, group12_eq, group13_eq, group14_eq, group15_eq]
  rw [canon_groups (vblk x3 x4 x5 x6)]
  · intro i o
    exact group_block 0 0 0 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 1 64 128 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 2 128 256 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 3 192 384 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 4 256 512 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 5 320 640 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 6 384 768 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 7 448 896 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 8 512 1024 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 9 576 1152 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 10 640 1280 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 11 704 1408 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 12 768 1536 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 13 832 1664 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 14 896 1792 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 15 960 1920 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o

set_option maxHeartbeats 400000 in
/-- The running adapter product, at a point of kind C. -/
theorem sout0_C_5_eq : sout0_C_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs4 xs5
    = k0_pay52 (k0_pay48 x8 x7 x0) xs5 x6 := by
  unfold sout0_C_5
  rw [View.read_writes_eq_canon _ _ _ (scover0_C_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs4 xs5)]
  unfold kernelRun0_C
  dsimp only
  sl_unfold_words
  simp only [View.canon_unit_zero (S := S1024x2048) hz, View.canon_unit_zero (S := S8x1024) hz, View.canon_unit_zero (S := S8x512) hz, View.canon_unit_zero (S := S1x512) hz, View.canon_unit_zero (S := S2048x8) hz, View.canon_cons_unit_zero (S := S1024x2048) hz, View.canon_cons_unit_zero (S := S8x1024) hz,
    readCov_ld, View.readAt_eq_ld, Memref.IsWhole.read_unread,
    View.ld_unit_zero (S := S1024x512) hz, View.ld_unit_zero (S := S1024x2048) hz, View.ld_unit_zero (S := S2048x8) hz, View.ld_unit_zero (S := S8x512) hz, View.ld_unit_zero (S := S1x512) hz, View.ld_unit_zero (S := S2048x512) hz, View.ld_unit_zero (S := S8x1024) hz, View.ld_unit_zero (S := S1024x128) hz]

set_option maxHeartbeats 400000 in
/-- The input gradient, at a point of kind C. -/
theorem out0_C_9_eq : out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs4 xs5
    = k0_pay1 (k0_pay51 (k0_pay48 x8 x7 x0) xs4 (vblk x3 x4 x5 x6)) := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs4 xs5)]
  unfold kernelRun0_C
  dsimp only
  sl_unfold_words
  simp only [View.canon_unit_zero (S := S1024x2048) hz, View.canon_unit_zero (S := S8x1024) hz, View.canon_unit_zero (S := S8x512) hz, View.canon_unit_zero (S := S1x512) hz, View.canon_unit_zero (S := S2048x8) hz, View.canon_cons_unit_zero (S := S1024x2048) hz, View.canon_cons_unit_zero (S := S8x1024) hz,
    readCov_ld, View.readAt_eq_ld, Memref.IsWhole.read_unread,
    View.ld_unit_zero (S := S1024x512) hz, View.ld_unit_zero (S := S1024x2048) hz, View.ld_unit_zero (S := S2048x8) hz, View.ld_unit_zero (S := S8x512) hz, View.ld_unit_zero (S := S1x512) hz, View.ld_unit_zero (S := S2048x512) hz, View.ld_unit_zero (S := S8x1024) hz, View.ld_unit_zero (S := S1024x128) hz]
  simp only [group1_eq, group2_eq, group3_eq, group4_eq, group5_eq, group6_eq, group7_eq, group8_eq, group9_eq, group10_eq, group11_eq, group12_eq, group13_eq, group14_eq, group15_eq]
  rw [canon_groups (vblk x3 x4 x5 x6)]
  · intro i o
    exact group_block 0 0 0 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 1 64 128 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 2 128 256 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 3 192 384 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 4 256 512 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 5 320 640 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 6 384 768 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 7 448 896 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 8 512 1024 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 9 576 1152 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 10 640 1280 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 11 704 1408 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 12 768 1536 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 13 832 1664 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 14 896 1792 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o
  · intro i o
    exact group_block 15 960 1920 (by decide) (by decide) (by decide) x3 x4 x5 x6 _ _ _ _
      (fun i o => congrArg x3 (idx_rows _ (by decide) i o)) (fun o => congrArg x4 (idx_rows _ (by decide) 0 o))
      (fun i r => congrArg x5 (idx_rows _ (by decide) i r)) (fun _ _ => rfl) i o

set_option maxHeartbeats 400000 in
/-- The `A` gradient, at a point of kind C. -/
theorem out0_C_10_eq : out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs4 xs5
    = k0_pay2 xs0 (colOf xs2) (k0_pay52 (k0_pay48 x8 x7 x0) xs5 x6) := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1 xs2 xs4 xs5)]
  unfold kernelRun0_C
  dsimp only
  sl_unfold_words
  simp only [View.canon_unit_zero (S := S1024x2048) hz, View.canon_unit_zero (S := S8x1024) hz, View.canon_unit_zero (S := S8x512) hz, View.canon_unit_zero (S := S1x512) hz, View.canon_unit_zero (S := S2048x8) hz, View.canon_cons_unit_zero (S := S1024x2048) hz, View.canon_cons_unit_zero (S := S8x1024) hz,
    readCov_ld, View.readAt_eq_ld, Memref.IsWhole.read_unread,
    View.ld_unit_zero (S := S1024x512) hz, View.ld_unit_zero (S := S1024x2048) hz, View.ld_unit_zero (S := S2048x8) hz, View.ld_unit_zero (S := S8x512) hz, View.ld_unit_zero (S := S1x512) hz, View.ld_unit_zero (S := S2048x512) hz, View.ld_unit_zero (S := S8x1024) hz, View.ld_unit_zero (S := S1024x128) hz]
  rw [ld_col]

end Cert.Dora
end
-- ==== Proof.Kept.lean ====
/-
  What the kernel's outputs and its carried scratch hold after each point. The first point fills the widened
  activations, the scaled product with `A` and the scale column, and the later points keep them; the running input
  gradient and the running adapter product gather one column block per point. The last point writes the input
  gradient and the gradient of `A`; every point writes its block of the gradient of `B` and of the magnitudes.
-/
module

public import proofs.«01_k».proof.Proof.Blocks
public import proofs.«01_k».proof.Proof.CaseA
public import proofs.«01_k».proof.Proof.CaseB
public import proofs.«01_k».proof.Proof.CaseC

@[expose] public section

set_option maxRecDepth 16384

noncomputable section

namespace Cert.Dora

open Idealize.ShloMosaic Idealize.ShloMosaic.TcCoe Idealize.SL.Sem
open Cert.KernelIdeal Cert.KernelIdeal.Gen
open scoped BigOperators

variable (m : (ℓ : Loc nD τ sig) → Buf (Elt Ideal) ℓ) (c : Dev nD)

/-- The sum of `f` over the columns of block `n`. -/
def blkSum (f : Fin 5632 → EReal) (n : ℕ) : EReal :=
  if h : n < 11 then ∑ k : Fin 512, f ⟨512 * n + k.val, by omega⟩ else 0

/-- The blocks' sums add up to the sum over all columns. -/
theorem sum_blkSum (f : Fin 5632 → EReal) : ∑ n ∈ Finset.range 11, blkSum f n = ∑ o : Fin 5632, f o := by
  rw [Finset.sum_range]
  have e : ∀ s : Fin 11, blkSum f s.val = ∑ k : Fin 512, f ⟨512 * s.val + k.val, by omega⟩ := fun s => by
    unfold blkSum; rw [dif_pos s.isLt]
  simp only [e]
  refine Fin.sum_mul_add_congr fun s k hl => ?_
  exact congrArg f (Fin.ext (by show 512 * s.val + k.val = s.val * 512 + k.val; omega))

/-- A grid point's part of a sum over the columns, as a sum over its block. -/
theorem blkSum_at (f : Fin 5632 → EReal) (t : Fin cfg0.N) : blkSum f t.val = ∑ k : Fin 512, f (col t k) := by
  have : t.val < 11 := lt_of_lt_of_eq t.isLt (show cfg0.N = 11 from N_0)
  unfold blkSum; rw [dif_pos this]; rfl

/-! ## The parts kept from the first point -/

/-- The widened activations of any point's block. -/
theorem xc_apply (t : Fin cfg0.N) (x : Fin 1024) (i : Fin 2048) :
    k0_pay3 (F := Ideal) (iblk m c 1 t) (ix2 x i) = (kin m c).xq x i := by
  rw [pay3_apply]; exact blk1 m c t x i

/-- The scaled product of the activations with `A`. -/
theorem xat_apply (t : Fin cfg0.N) (r : Fin 8) (x : Fin 1024) :
    k0_pay13 (F := Ideal) (k0_pay12 (k0_pay3 (iblk m c 1 t)) (iblk m c 5 t) (colOf (scolF (iblk m c 2 t)))) (ix2 r x)
      = (kin m c).xa x r := by
  rw [pay13_apply]
  refine congrArg₂ (· * ·) (Finset.sum_congr rfl fun i _ => congrArg₂ (· * ·) (xc_apply m c t x i) (blk5 m c t i r)) ?_
  exact scol_apply m c t x 0

/-- A later point keeps the widened activations. -/
theorem kept_xc (t : Fin cfg0.N) (h0 : ¬t.val % 11 = 0) :
    (outsAt0 m c t.val t.isLt).2.2.2.2.1
      = (outsAt0 m c (t.val - 1) (Nat.lt_of_le_of_lt (Nat.sub_le _ _) t.isLt)).2.2.2.2.1 := by
  by_cases h1 : t.val % 11 = 10
  · rw [outsAt0_C m c t h0 h1]; rfl
  · rw [outsAt0_B m c t h0 h1]; rfl

/-- A later point keeps the product with `A`. -/
theorem kept_xat (t : Fin cfg0.N) (h0 : ¬t.val % 11 = 0) :
    (outsAt0 m c t.val t.isLt).2.2.2.2.2.1
      = (outsAt0 m c (t.val - 1) (Nat.lt_of_le_of_lt (Nat.sub_le _ _) t.isLt)).2.2.2.2.2.1 := by
  by_cases h1 : t.val % 11 = 10
  · rw [outsAt0_C m c t h0 h1]; rfl
  · rw [outsAt0_B m c t h0 h1]; rfl

/-- A later point keeps the scale column. -/
theorem kept_scol (t : Fin cfg0.N) (h0 : ¬t.val % 11 = 0) :
    (outsAt0 m c t.val t.isLt).2.2.2.2.2.2.1
      = (outsAt0 m c (t.val - 1) (Nat.lt_of_le_of_lt (Nat.sub_le _ _) t.isLt)).2.2.2.2.2.2.1 := by
  by_cases h1 : t.val % 11 = 10
  · rw [outsAt0_C m c t h0 h1]; rfl
  · rw [outsAt0_B m c t h0 h1]; rfl

/-- After every point the buffer of widened activations holds the codes. -/
theorem xc_after (n : ℕ) : ∀ (hn : n < cfg0.N) (x : Fin 1024) (i : Fin 2048),
    ((outsAt0 m c n hn).2.2.2.2.1 : Vec Ideal S1024x2048 .bf16) (ix2 x i) = (kin m c).xq x i := by
  induction n with
  | zero =>
    intro hn x i
    rw [show outsAt0 m c 0 hn = _ from outsAt0_A m c ⟨0, hn⟩ rfl (by simp)]
    dsimp only
    rw [sout0_A_0_eq]
    exact xc_apply m c _ x i
  | succ n ih =>
    intro hn x i
    have hN : n + 1 < 11 := lt_of_lt_of_eq hn (show cfg0.N = 11 from N_0)
    exact (congrFun (kept_xc m c ⟨n + 1, hn⟩ (by show ¬ (n + 1) % 11 = 0; omega)) _).trans (ih _ x i)

/-- After every point the buffer of the product with `A` holds it. -/
theorem xat_after (n : ℕ) : ∀ (hn : n < cfg0.N) (r : Fin 8) (x : Fin 1024),
    ((outsAt0 m c n hn).2.2.2.2.2.1 : Vec Ideal S8x1024 .bf16) (ix2 r x) = (kin m c).xa x r := by
  induction n with
  | zero =>
    intro hn r x
    rw [show outsAt0 m c 0 hn = _ from outsAt0_A m c ⟨0, hn⟩ rfl (by simp)]
    dsimp only
    rw [sout0_A_1_eq]
    exact xat_apply m c _ r x
  | succ n ih =>
    intro hn r x
    have hN : n + 1 < 11 := lt_of_lt_of_eq hn (show cfg0.N = 11 from N_0)
    exact (congrFun (kept_xat m c ⟨n + 1, hn⟩ (by show ¬ (n + 1) % 11 = 0; omega)) _).trans (ih _ r x)

/-- After every point the scale column holds the scales. -/
theorem scol_after (n : ℕ) : ∀ (hn : n < cfg0.N) (x : Fin 1024) (l : Fin 128),
    ((outsAt0 m c n hn).2.2.2.2.2.2.1 : Vec Ideal S1024x128 .f32) (ix2 x l) = (kin m c).xs x := by
  induction n with
  | zero =>
    intro hn x l
    rw [show outsAt0 m c 0 hn = _ from outsAt0_A m c ⟨0, hn⟩ rfl (by simp)]
    dsimp only
    rw [sout0_A_2_eq]
    exact scol_apply m c _ x l
  | succ n ih =>
    intro hn x l
    have hN : n + 1 < 11 := lt_of_lt_of_eq hn (show cfg0.N = 11 from N_0)
    exact (congrFun (kept_scol m c ⟨n + 1, hn⟩ (by show ¬ (n + 1) % 11 = 0; omega)) _).trans (ih _ x l)

end Cert.Dora

end
-- ==== Proof.Outputs.lean ====
/-
  The four outputs of the kernel, at an index, in terms of the problem's inputs: the input gradient and the gradient
  of `A` after the last point, the blocks of the gradients of `B` and of the magnitudes after each point.
-/
module

public import proofs.«01_k».proof.Proof.Kept

@[expose] public section

set_option maxRecDepth 16384

noncomputable section

namespace Cert.Dora

open Idealize.ShloMosaic Idealize.ShloMosaic.TcCoe Idealize.SL.Sem
open Cert.KernelIdeal Cert.KernelIdeal.Gen
open scoped BigOperators

variable (m : (ℓ : Loc nD τ sig) → Buf (Elt Ideal) ℓ) (c : Dev nD)

/-! ## What one point adds -/

/-- A point adds its columns' part of the input gradient. -/
theorem acc_step (t : Fin cfg0.N) (acc : Vec Ideal S1024x2048 .f32) (x : Fin 1024) (i : Fin 2048) :
    k0_pay51 (F := Ideal) (k0_pay48 (iblk m c 8 t) (iblk m c 7 t) (iblk m c 0 t)) acc
        (vblk (iblk m c 3 t) (iblk m c 4 t) (iblk m c 5 t) (iblk m c 6 t)) (ix2 x i)
      = acc (ix2 x i) + blkSum (fun o => (kin m c).dyp x o * (kin m c).v i o) t.val := by
  rw [pay51_apply, blkSum_at]
  refine congrArg (acc (ix2 x i) + ·) (Finset.sum_congr rfl fun k _ => ?_)
  exact congrArg₂ (· * ·) (dyp_apply m c t x k) (v_apply m c t i k)

/-- A point adds its columns' part of the adapter product. -/
theorem ht_step (t : Fin cfg0.N) (ht : Vec Ideal S8x1024 .f32) (r : Fin 8) (x : Fin 1024) :
    k0_pay52 (F := Ideal) (k0_pay48 (iblk m c 8 t) (iblk m c 7 t) (iblk m c 0 t)) ht (iblk m c 6 t) (ix2 r x)
      = ht (ix2 r x) + blkSum (fun o => (kin m c).dyp x o * (kin m c).b r o) t.val := by
  rw [pay52_apply, blkSum_at]
  refine congrArg (ht (ix2 r x) + ·) (Finset.sum_congr rfl fun k _ => ?_)
  rw [mul_comm]
  exact congrArg₂ (· * ·) (dyp_apply m c t x k) (blk6 m c t r k)

/-- A later point's running input gradient. -/
theorem acc_next (t : Fin cfg0.N) (h0 : ¬t.val % 11 = 0) (x : Fin 1024) (i : Fin 2048) :
    ((outsAt0 m c t.val t.isLt).2.2.2.2.2.2.2.1 : Vec Ideal S1024x2048 .f32) (ix2 x i)
      = ((outsAt0 m c (t.val - 1) (Nat.lt_of_le_of_lt (Nat.sub_le _ _) t.isLt)).2.2.2.2.2.2.2.1 : Vec Ideal S1024x2048 .f32) (ix2 x i)
        + blkSum (fun o => (kin m c).dyp x o * (kin m c).v i o) t.val := by
  by_cases h1 : t.val % 11 = 10
  · rw [outsAt0_C m c t h0 h1]
    dsimp only
    rw [sout0_C_4_eq]
    exact acc_step m c t _ x i
  · rw [outsAt0_B m c t h0 h1]
    dsimp only
    rw [sout0_B_4_eq]
    exact acc_step m c t _ x i

/-- A later point's running adapter product. -/
theorem ht_next (t : Fin cfg0.N) (h0 : ¬t.val % 11 = 0) (r : Fin 8) (x : Fin 1024) :
    ((outsAt0 m c t.val t.isLt).2.2.2.2.2.2.2.2 : Vec Ideal S8x1024 .f32) (ix2 r x)
      = ((outsAt0 m c (t.val - 1) (Nat.lt_of_le_of_lt (Nat.sub_le _ _) t.isLt)).2.2.2.2.2.2.2.2 : Vec Ideal S8x1024 .f32) (ix2 r x)
        + blkSum (fun o => (kin m c).dyp x o * (kin m c).b r o) t.val := by
  by_cases h1 : t.val % 11 = 10
  · rw [outsAt0_C m c t h0 h1]
    dsimp only
    rw [sout0_C_5_eq]
    exact ht_step m c t _ r x
  · rw [outsAt0_B m c t h0 h1]
    dsimp only
    rw [sout0_B_5_eq]
    exact ht_step m c t _ r x

/-- After point `n` the running input gradient is the sum over the columns of blocks 0 … n. -/
theorem acc_after (n : ℕ) : ∀ (hn : n < cfg0.N) (x : Fin 1024) (i : Fin 2048),
    ((outsAt0 m c n hn).2.2.2.2.2.2.2.1 : Vec Ideal S1024x2048 .f32) (ix2 x i)
      = ∑ j ∈ Finset.range (n + 1), blkSum (fun o => (kin m c).dyp x o * (kin m c).v i o) j := by
  induction n with
  | zero =>
    intro hn x i
    rw [show outsAt0 m c 0 hn = _ from outsAt0_A m c ⟨0, hn⟩ rfl (by simp)]
    dsimp only
    rw [sout0_A_4_eq, Finset.sum_range_one]
    refine (acc_step m c ⟨0, hn⟩ _ x i).trans ?_
    rw [pay14_apply, zero_add]
  | succ n ih =>
    intro hn x i
    have hN : n + 1 < 11 := lt_of_lt_of_eq hn (show cfg0.N = 11 from N_0)
    rw [Finset.sum_range_succ, ← ih (Nat.lt_of_succ_lt hn) x i]
    exact acc_next m c ⟨n + 1, hn⟩ (by show ¬ (n + 1) % 11 = 0; omega) x i

/-- After point `n` the running adapter product is the sum over the columns of blocks 0 … n. -/
theorem ht_after (n : ℕ) : ∀ (hn : n < cfg0.N) (r : Fin 8) (x : Fin 1024),
    ((outsAt0 m c n hn).2.2.2.2.2.2.2.2 : Vec Ideal S8x1024 .f32) (ix2 r x)
      = ∑ j ∈ Finset.range (n + 1), blkSum (fun o => (kin m c).dyp x o * (kin m c).b r o) j := by
  induction n with
  | zero =>
    intro hn r x
    rw [show outsAt0 m c 0 hn = _ from outsAt0_A m c ⟨0, hn⟩ rfl (by simp)]
    dsimp only
    rw [sout0_A_5_eq, Finset.sum_range_one]
    refine (ht_step m c ⟨0, hn⟩ _ r x).trans ?_
    rw [pay15_apply, zero_add]
  | succ n ih =>
    intro hn r x
    have hN : n + 1 < 11 := lt_of_lt_of_eq hn (show cfg0.N = 11 from N_0)
    rw [Finset.sum_range_succ, ← ih (Nat.lt_of_succ_lt hn) r x]
    exact ht_next m c ⟨n + 1, hn⟩ (by show ¬ (n + 1) % 11 = 0; omega) r x

/-! ## The outputs -/

/-- The last point's input-gradient block is the input gradient. -/
theorem dx_after (t : Fin cfg0.N) (h1 : t.val % 11 = 10) (x : Fin 1024) (i : Fin 2048) :
    ((outsAt0 m c t.val t.isLt).1 : Vec Ideal S1024x2048 .bf16) (ix2 x i) = (kin m c).dx x i := by
  have hN : t.val < 11 := lt_of_lt_of_eq t.isLt (show cfg0.N = 11 from N_0)
  have h0 : ¬t.val % 11 = 0 := by omega
  have e10 : t.val - 1 + 1 = 10 := by omega
  have et : t.val = 10 := by omega
  rw [outsAt0_C m c t h0 h1]
  dsimp only
  rw [out0_C_9_eq, pay1_apply]
  refine (acc_step m c t _ x i).trans ?_
  rw [acc_after, e10, et, ← Finset.sum_range_succ]
  exact sum_blkSum _

/-- The last point's block of the gradient of `A` is that gradient. -/
theorem da_after (t : Fin cfg0.N) (h1 : t.val % 11 = 10) (i : Fin 2048) (r : Fin 8) :
    ((outsAt0 m c t.val t.isLt).2.1 : Vec Ideal S2048x8 .bf16) (ix2 i r) = (kin m c).da i r := by
  have hN : t.val < 11 := lt_of_lt_of_eq t.isLt (show cfg0.N = 11 from N_0)
  have h0 : ¬t.val % 11 = 0 := by omega
  have e10 : t.val - 1 + 1 = 10 := by omega
  have et : t.val = 10 := by omega
  rw [outsAt0_C m c t h0 h1]
  dsimp only
  rw [out0_C_10_eq, pay2_apply]
  refine congrArg (half * ·) (Finset.sum_congr rfl fun x _ => ?_)
  rw [mul_comm]
  refine congrArg₂ (· * ·) (congrArg₂ (· * ·) (xc_after m c _ _ x i) (scol_after m c _ _ x 0)) ?_
  refine (ht_step m c t _ r x).trans ?_
  rw [ht_after, e10, et, ← Finset.sum_range_succ]
  exact sum_blkSum _

/-- A column block of the gradient of `B`, from the product with `A`. -/
theorem db_block (t : Fin cfg0.N) (xat : Vec Ideal S8x1024 .bf16) (hx : ∀ r x, xat (ix2 r x) = (kin m c).xa x r)
    (r : Fin 8) (k : Fin 512) :
    k0_pay53 (F := Ideal) (k0_pay48 (iblk m c 8 t) (iblk m c 7 t) (iblk m c 0 t)) xat (ix2 r k)
      = (kin m c).db r (col t k) := by
  rw [pay53_apply]
  exact congrArg (half * ·) (Finset.sum_congr rfl fun x _ => congrArg₂ (· * ·) (hx r x) (dyp_apply m c t x k))

/-- Every point's block of the gradient of `B` holds that gradient's columns. -/
theorem db_after (t : Fin cfg0.N) (r : Fin 8) (k : Fin 512) :
    ((outsAt0 m c t.val t.isLt).2.2.1 : Vec Ideal S8x512 .bf16) (ix2 r k) = (kin m c).db r (col t k) := by
  by_cases h0 : t.val % 11 = 0
  · rw [outsAt0_A m c t h0 (by omega)]
    dsimp only
    rw [out0_A_11_eq]
    exact db_block m c t _ (xat_apply m c t) r k
  · by_cases h1 : t.val % 11 = 10
    · rw [outsAt0_C m c t h0 h1]
      dsimp only
      rw [out0_C_11_eq]
      exact db_block m c t _ (xat_after m c _ _) r k
    · rw [outsAt0_B m c t h0 h1]
      dsimp only
      rw [out0_B_11_eq]
      exact db_block m c t _ (xat_after m c _ _) r k

/-- A column block of the magnitudes' gradient, from the widened activations and the scale column. -/
theorem dm_block (t : Fin cfg0.N) (xc : Vec Ideal S1024x2048 .bf16) (s : Vec Ideal S1024x128 .f32)
    (hx : ∀ x i, xc (ix2 x i) = (kin m c).xq x i) (hs : ∀ x l, s (ix2 x l) = (kin m c).xs x) (k : Fin 512) :
    k0_pay50 (F := Ideal) (k0_pay46 (iblk m c 8 t)) (k0_pay47 (iblk m c 0 t))
        (k0_pay49 xc (vblk (iblk m c 3 t) (iblk m c 4 t) (iblk m c 5 t) (iblk m c 6 t))) s (ix2 0 k)
      = (kin m c).dmOnce (col t k) := by
  rw [pay50_apply _ _ _ _ _ _ hs]
  refine congrArg₂ Ideal.div (Finset.sum_congr rfl fun x _ => congrArg₂ (· * ·) (blk0 m c t x k) ?_) (blk8 m c t k)
  exact congrArg (· * (kin m c).xs x) (Finset.sum_congr rfl fun i _ => congrArg₂ (· * ·) (hx x i) (v_apply m c t i k))

/-- Every point's block of the magnitudes' gradient holds its columns, divided once after the sum. -/
theorem dm_after (t : Fin cfg0.N) (k : Fin 512) :
    ((outsAt0 m c t.val t.isLt).2.2.2.1 : Vec Ideal S1x512 .f32) (ix2 0 k) = (kin m c).dmOnce (col t k) := by
  by_cases h0 : t.val % 11 = 0
  · rw [outsAt0_A m c t h0 (by omega)]
    dsimp only
    rw [out0_A_12_eq]
    exact dm_block m c t _ _ (xc_apply m c t) (scol_apply m c t) k
  · by_cases h1 : t.val % 11 = 10
    · rw [outsAt0_C m c t h0 h1]
      dsimp only
      rw [out0_C_12_eq]
      exact dm_block m c t _ _ (xc_after m c _ _) (scol_after m c _ _) k
    · rw [outsAt0_B m c t h0 h1]
      dsimp only
      rw [out0_B_12_eq]
      exact dm_block m c t _ _ (xc_after m c _ _) (scol_after m c _ _) k

end Cert.Dora

end
-- ==== Proof.KernelRun.lean ====
/-
  The kernel's four result arrays after its run are, index by index, the four gradients of its inputs (the gradient
  of the magnitudes in the form that divides once, after the sum).
-/
module

public import proofs.«01_k».proof.Proof.Outputs
public import proofs.«01_k».proof.Proof.Gen.KernelIdeal.Value

@[expose] public section

set_option maxRecDepth 16384

noncomputable section

namespace Cert.Dora

open Idealize.ShloMosaic Idealize.ShloMosaic.TcCoe Idealize.SL.Sem
open Cert.KernelIdeal Cert.KernelIdeal.Gen Cert.KernelIdeal.Value
open scoped BigOperators

variable (m : (ℓ : Loc nD τ sig) → Buf (Elt Ideal) ℓ) (c : Dev nD)

/-- `dx_after` with the point's number apart. -/
theorem dx_at (n : ℕ) (hn : n < cfg0.N) (h : n % 11 = 10) (x : Fin 1024) (i : Fin 2048) :
    ((outsAt0 m c n hn).1 : Vec Ideal S1024x2048 .bf16) (ix2 x i) = (kin m c).dx x i := by
  obtain ⟨t, rfl⟩ : ∃ t : Fin cfg0.N, t.val = n := ⟨⟨n, hn⟩, rfl⟩
  exact dx_after m c t h x i

/-- `da_after` with the point's number apart. -/
theorem da_at (n : ℕ) (hn : n < cfg0.N) (h : n % 11 = 10) (i : Fin 2048) (r : Fin 8) :
    ((outsAt0 m c n hn).2.1 : Vec Ideal S2048x8 .bf16) (ix2 i r) = (kin m c).da i r := by
  obtain ⟨t, rfl⟩ : ∃ t : Fin cfg0.N, t.val = n := ⟨⟨n, hn⟩, rfl⟩
  exact da_after m c t h i r

/-- The kernel's first result is the input gradient. -/
theorem kernel_dx (x : Fin 1024) (i : Fin 2048) :
    (G9 (F := Ideal) m c : Vec Ideal S1024x2048 .bf16) (ix2 x i) = (kin m c).dx x i := by
  have hN : 10 < cfg0.N := lt_of_lt_of_eq (by decide) N_0.symm
  rw [G9_last, ← outsAt0_sweep m c 10 hN]
  exact dx_at m c 10 hN rfl x i

/-- The kernel's second result is the gradient of the adapter's first factor. -/
theorem kernel_da (i : Fin 2048) (r : Fin 8) :
    (G10 (F := Ideal) m c : Vec Ideal S2048x8 .bf16) (ix2 i r) = (kin m c).da i r := by
  have hN : 10 < cfg0.N := lt_of_lt_of_eq (by decide) N_0.symm
  rw [G10_last, ← outsAt0_sweep m c 10 hN]
  exact da_at m c 10 hN rfl i r

/-- The point that writes column `o`, and the column's place in that point's block. -/
theorem col_div (o : Fin 5632) (h : o.val / 512 < cfg0.N) : col ⟨o.val / 512, h⟩ ⟨o.val % 512, by omega⟩ = o :=
  Fin.ext (by show 512 * (o.val / 512) + o.val % 512 = o.val; omega)

/-- The kernel's third result is the gradient of the adapter's second factor. -/
theorem kernel_db (r : Fin 8) (o : Fin 5632) :
    (G11 (F := Ideal) m c : Vec Ideal S8x5632 .bf16) (ix2 r o) = (kin m c).db r o := by
  have hN : o.val / 512 < cfg0.N := lt_of_lt_of_eq (by omega) N_0.symm
  have hp : pt11Of (ix2 r o) = o.val / 512 := by
    show 11 * (r.val / 8 - 0) + 1 * (o.val / 512 - 0) = o.val / 512
    omega
  have hl : loc11Of (ix2 r o) = ix2 r ⟨o.val % 512, by omega⟩ := by
    funext a; apply Fin.ext
    match a with
    | ⟨0, _⟩ => show r.val % 8 = r.val; omega
    | ⟨1, _⟩ => rfl
  unfold G11
  rw [dif_pos (lt_of_eq_of_lt hp hN), hl, fold0_congr m c _ _ _ (by rw [Nat.zero_add]; exact hN) hp, ← outsAt0_sweep m c _ hN]
  exact (db_after m c ⟨o.val / 512, hN⟩ r _).trans (congrArg _ (col_div o hN))

/-- The kernel's fourth result is the gradient of the magnitudes, divided once. -/
theorem kernel_dm (o : Fin 5632) :
    (G12 (F := Ideal) m c : Vec Ideal S1x5632 .f32) (ix2 0 o) = (kin m c).dmOnce o := by
  have hN : o.val / 512 < cfg0.N := lt_of_lt_of_eq (by omega) N_0.symm
  have hp : pt12Of (ix2 (0 : Fin 1) o) = o.val / 512 := by
    show 11 * (0 / 1 - 0) + 1 * (o.val / 512 - 0) = o.val / 512
    omega
  have hl : loc12Of (ix2 (0 : Fin 1) o) = ix2 (0 : Fin 1) ⟨o.val % 512, by omega⟩ := by
    funext a; apply Fin.ext
    match a with
    | ⟨0, _⟩ => rfl
    | ⟨1, _⟩ => rfl
  unfold G12
  rw [dif_pos (lt_of_eq_of_lt hp hN), hl, fold0_congr m c _ _ _ (by rw [Nat.zero_add]; exact hN) hp, ← outsAt0_sweep m c _ hN]
  exact (dm_after m c ⟨o.val / 512, hN⟩ _).trans (congrArg _ (col_div o hN))

end Cert.Dora

end
-- ==== Proof.RefPoint.lean ====
/-
  The values the reference's body stores, each read at one index, are the gradients of `Inputs`.
-/
module

public import proofs.«01_k».proof.Proof.Spec
public import proofs.«01_k».proof.Proof.Gen.ReferenceIdeal.Skeleton
public import Idealize.ShloMosaic.Lib.Pointwise

@[expose] public section

set_option maxRecDepth 16384

noncomputable section

namespace Cert.Dora

open Idealize.ShloMosaic Idealize.ShloMosaic.TcCoe Idealize.SL.Sem
open Cert.ReferenceIdeal Cert.ReferenceIdeal.Gen
open scoped BigOperators

variable (dy : Vec Ideal S1024x5632 .bf16) (xq : Vec Ideal S1024x2048 .fp8e4m3) (xs : Vec Ideal S1024x1 .f32)
  (wq : Vec Ideal S1024x5632 .i8) (ws : Vec Ideal S16x5632 .bf16) (a : Vec Ideal S2048x8 .bf16)
  (b : Vec Ideal S8x5632 .bf16) (mg n : Vec Ideal S1x5632 .f32)

/-- The reference's operands as the problem's inputs. -/
def refIn : Inputs where
  dy t o := dy (ix2 t o)
  xq t i := xq (ix2 t i)
  xs t := xs (ix2 t 0)
  wq j o := wq (ix2 j o)
  ws g o := ws (ix2 g o)
  a i r := a (ix2 i r)
  b r o := b (ix2 r o)
  mag o := mg (ix2 0 o)
  nrm o := n (ix2 0 o)

/-- The reference's weight. -/
theorem ref_v (i : Fin 2048) (o : Fin 5632) :
    k0_pay3 (F := Ideal) a b wq ws (ix2 i o) = (refIn dy xq xs wq ws a b mg n).v i o := by
  pointwise [k0_pay3]
  have e1 : (⟨i.val / 128 * 64 + i.val % 128 / 2, by omega⟩ : Fin 1024) = ⟨i.val / 2, by omega⟩ :=
    Fin.ext (by show i.val / 128 * 64 + i.val % 128 / 2 = i.val / 2; omega)
  refine congrArg₂ (· + ·) (congrArg₂ (· * ·) ?_ rfl) rfl
  refine congrArg (fun w : BitVec 32 => ((w.toInt : ℝ) : EReal)) ?_
  unfold nibWord fieldWord
  by_cases h : i.val % 2 = 0
  · rw [dif_pos (by omega), if_pos h]
    exact congrArg (fun w : BitVec 8 => ((w.setWidth 32 &&& 15#32) ^^^ 8#32) - 8#32) (congrArg (fun j => wq (ix2 j o)) e1)
  · rw [dif_neg (by omega), if_neg h]
    exact congrArg (fun w : BitVec 8 => (((w.setWidth 32).sshiftRight' 4#32 &&& 15#32) ^^^ 8#32) - 8#32)
      (congrArg (fun j => wq (ix2 j o)) e1)

/-- The reference's scaled output gradient. -/
theorem ref_dyp (t : Fin 1024) (o : Fin 5632) :
    k0_pay6 (F := Ideal) (k0_pay4 n mg) (k0_pay5 dy) (ix2 t o) = (refIn dy xq xs wq ws a b mg n).dyp t o := by
  pointwise [k0_pay6, k0_pay4, k0_pay2, k0_pay5]
  rfl

/-- The reference's input gradient. -/
theorem ref_dx (t : Fin 1024) (i : Fin 2048) :
    k0_pay7 (F := Ideal) (k0_pay3 a b wq ws) (k0_pay4 n mg) (k0_pay5 dy) (ix2 t i) = (refIn dy xq xs wq ws a b mg n).dx t i := by
  pointwise [k0_pay7]
  simp only [ref_dyp dy xq xs wq ws a b mg n, ref_v dy xq xs wq ws a b mg n]
  rfl

/-- The reference's gradient of the magnitudes. -/
theorem ref_dm (o : Fin 5632) :
    k0_pay9 (F := Ideal) (k0_pay1 xs) (k0_pay2 n) (k0_pay3 a b wq ws) (k0_pay5 dy) xq (ix2 0 o)
      = (refIn dy xq xs wq ws a b mg n).dm o := by
  pointwise [k0_pay9, k0_pay1, k0_pay2, k0_pay5, k0_pay8]
  simp only [ref_v dy xq xs wq ws a b mg n]
  rfl

/-- The reference's gradient of the first factor. -/
theorem ref_da (i : Fin 2048) (r : Fin 8) :
    k0_pay10 (F := Ideal) b (k0_pay1 xs) (k0_pay4 n mg) (k0_pay5 dy) xq (ix2 i r)
      = (refIn dy xq xs wq ws a b mg n).da i r := by
  pointwise [k0_pay10, k0_pay1, k0_pay8]
  simp only [ref_dyp dy xq xs wq ws a b mg n]
  rfl

/-- The reference's gradient of the second factor. -/
theorem ref_db (r : Fin 8) (o : Fin 5632) :
    k0_pay11 (F := Ideal) a (k0_pay1 xs) (k0_pay4 n mg) (k0_pay5 dy) xq (ix2 r o)
      = (refIn dy xq xs wq ws a b mg n).db r o := by
  pointwise [k0_pay11, k0_pay1, k0_pay8]
  simp only [ref_dyp dy xq xs wq ws a b mg n]
  rfl

end Cert.Dora

end
-- ==== Proof.RefRun.lean ====
/-
  The reference's four result arrays after its run are, index by index, the four gradients of its inputs: its one
  point reads every operand whole and writes every result whole.
-/
module

public import proofs.«01_k».proof.Proof.RefPoint
public import proofs.«01_k».proof.Proof.Gen.ReferenceIdeal.Value
public import Idealize.ShloMosaic.Lib.Pipeline.ValueKit

@[expose] public section

set_option maxRecDepth 16384

noncomputable section

namespace Cert.Dora.Ref

open Idealize.ShloMosaic Idealize.ShloMosaic.TcCoe Idealize.SL.Sem
open Cert.ReferenceIdeal Cert.ReferenceIdeal.Gen
open scoped BigOperators

/-! ## What the body stores, over the operands' blocks -/

section Body

variable (x0 : Vec Ideal S1024x5632 .bf16) (x1 : Vec Ideal S1024x2048 .fp8e4m3) (x2 : Vec Ideal S1024x1 .f32)
  (x3 : Vec Ideal S1024x5632 .i8) (x4 : Vec Ideal S16x5632 .bf16) (x5 : Vec Ideal S2048x8 .bf16)
  (x6 : Vec Ideal S8x5632 .bf16) (x7 x8 : Vec Ideal S1x5632 .f32)

/-- Every load and store starts at index 0 of both axes. -/
theorem hz : (![0, 0] : Fin 2 → Nat) = fun _ => 0 := funext fun a => by fin_cases a <;> rfl

/-- The body's store into result 0: the input gradient. -/
theorem out_dx : out0_9 (F := Ideal) x0 x1 x2 x3 x4 x5 x6 x7 x8
    = fun j : S1024x2048.Idx => (refIn x0 x1 x2 x3 x4 x5 x6 x7 x8).dx (j 0) (j 1) := by
  have e : out0_9 (F := Ideal) x0 x1 x2 x3 x4 x5 x6 x7 x8 = k0_pay7 (k0_pay3 x5 x6 x3 x4) (k0_pay4 x8 x7) (k0_pay5 x0) := by
    unfold out0_9 k0_pay15 k0_pay14 k0_pay13
    rw [View.canon_unit_zero (S := S1024x2048) hz]
    simp only [View.ld_unit_zero (S := S2048x8) hz, View.ld_unit_zero (S := S8x5632) hz, View.ld_unit_zero (S := S1024x1) hz,
      View.ld_unit_zero (S := S1x5632) hz, View.ld_unit_zero (S := S1024x5632) hz, View.ld_unit_zero (S := S16x5632) hz,
      View.ld_unit_zero (S := S1024x2048) hz]
  rw [e]
  funext j
  exact (congrArg _ (eq_ix2 j)).trans (ref_dx x0 x1 x2 x3 x4 x5 x6 x7 x8 _ _)

/-- The body's store into result 1: the gradient of the adapter's first factor. -/
theorem out_da : out0_10 (F := Ideal) x0 x1 x2 x3 x4 x5 x6 x7 x8
    = fun j : S2048x8.Idx => (refIn x0 x1 x2 x3 x4 x5 x6 x7 x8).da (j 0) (j 1) := by
  have e : out0_10 (F := Ideal) x0 x1 x2 x3 x4 x5 x6 x7 x8 = k0_pay10 x6 (k0_pay1 x2) (k0_pay4 x8 x7) (k0_pay5 x0) x1 := by
    unfold out0_10 k0_pay15 k0_pay14 k0_pay12
    rw [View.canon_unit_zero (S := S2048x8) hz]
    simp only [View.ld_unit_zero (S := S2048x8) hz, View.ld_unit_zero (S := S8x5632) hz, View.ld_unit_zero (S := S1024x1) hz,
      View.ld_unit_zero (S := S1x5632) hz, View.ld_unit_zero (S := S1024x5632) hz, View.ld_unit_zero (S := S16x5632) hz,
      View.ld_unit_zero (S := S1024x2048) hz]
  rw [e]
  funext j
  exact (congrArg _ (eq_ix2 j)).trans (ref_da x0 x1 x2 x3 x4 x5 x6 x7 x8 _ _)

/-- The body's store into result 2: the gradient of the adapter's second factor. -/
theorem out_db : out0_11 (F := Ideal) x0 x1 x2 x3 x4 x5 x6 x7 x8
    = fun j : S8x5632.Idx => (refIn x0 x1 x2 x3 x4 x5 x6 x7 x8).db (j 0) (j 1) := by
  have e : out0_11 (F := Ideal) x0 x1 x2 x3 x4 x5 x6 x7 x8 = k0_pay11 x5 (k0_pay1 x2) (k0_pay4 x8 x7) (k0_pay5 x0) x1 := by
    unfold out0_11 k0_pay15 k0_pay14 k0_pay12
    rw [View.canon_unit_zero (S := S8x5632) hz]
    simp only [View.ld_unit_zero (S := S2048x8) hz, View.ld_unit_zero (S := S8x5632) hz, View.ld_unit_zero (S := S1024x1) hz,
      View.ld_unit_zero (S := S1x5632) hz, View.ld_unit_zero (S := S1024x5632) hz, View.ld_unit_zero (S := S16x5632) hz,
      View.ld_unit_zero (S := S1024x2048) hz]
  rw [e]
  funext j
  exact (congrArg _ (eq_ix2 j)).trans (ref_db x0 x1 x2 x3 x4 x5 x6 x7 x8 _ _)

/-- The body's store into result 3: the gradient of the magnitudes. -/
theorem out_dm : out0_12 (F := Ideal) x0 x1 x2 x3 x4 x5 x6 x7 x8
    = fun j : S1x5632.Idx => (refIn x0 x1 x2 x3 x4 x5 x6 x7 x8).dm (j 1) := by
  have e : out0_12 (F := Ideal) x0 x1 x2 x3 x4 x5 x6 x7 x8 = k0_pay9 (k0_pay1 x2) (k0_pay2 x8) (k0_pay3 x5 x6 x3 x4) (k0_pay5 x0) x1 := by
    unfold out0_12 k0_pay15 k0_pay13 k0_pay12
    rw [View.canon_unit_zero (S := S1x5632) hz]
    simp only [View.ld_unit_zero (S := S2048x8) hz, View.ld_unit_zero (S := S8x5632) hz, View.ld_unit_zero (S := S1024x1) hz,
      View.ld_unit_zero (S := S1x5632) hz, View.ld_unit_zero (S := S1024x5632) hz, View.ld_unit_zero (S := S16x5632) hz,
      View.ld_unit_zero (S := S1024x2048) hz]
  rw [e]
  funext j
  have ej : j = ix2 (0 : Fin 1) (j 1) := (eq_ix2 j).trans (congrArg (ix2 · (j 1)) (Subsingleton.elim (α := Fin 1) _ _))
  exact (congrArg _ ej).trans (ref_dm x0 x1 x2 x3 x4 x5 x6 x7 x8 _)

end Body

/-! ## The result arrays -/

variable (m : (ℓ : Loc nD τ sig) → Buf (Elt Ideal) ℓ) (c : Dev nD)

/-- The reference's operands as the problem's inputs, the reshaped ones as the region finds them. -/
def rin : Inputs :=
  refIn (V m c main_v0 : Vec Ideal S1024x5632 .bf16) (V m c main_v1 : Vec Ideal S1024x2048 .fp8e4m3)
    (V m c main_v2 : Vec Ideal S1024x1 .f32) (V m c main_arg3 : Vec Ideal S1024x5632 .i8)
    (V m c main_arg4 : Vec Ideal S16x5632 .bf16) (V m c main_arg5 : Vec Ideal S2048x8 .bf16)
    (V m c main_arg6 : Vec Ideal S8x5632 .bf16) (V m c main_v3 : Vec Ideal S1x5632 .f32)
    (V m c main_v4 : Vec Ideal S1x5632 .f32)

/-- Every window's block index at the one point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

/-- The block of the output gradient is the whole array. -/
theorem iblk0 : iblk m c 0 t0_0 = (V m c main_v0 : Vec Ideal S1024x5632 .bf16) := by blk_ext! [iblk, idx t0_0]
/-- The block of the activation codes is the whole array. -/
theorem iblk1 : iblk m c 1 t0_0 = (V m c main_v1 : Vec Ideal S1024x2048 .fp8e4m3) := by blk_ext! [iblk, idx t0_0]
/-- The block of the scales is the whole array. -/
theorem iblk2 : iblk m c 2 t0_0 = (V m c main_v2 : Vec Ideal S1024x1 .f32) := by blk_ext! [iblk, idx t0_0]
/-- The block of the packed weights is the whole array. -/
theorem iblk3 : iblk m c 3 t0_0 = (V m c main_arg3 : Vec Ideal S1024x5632 .i8) := by blk_ext! [iblk, idx t0_0]
/-- The block of the weight scales is the whole array. -/
theorem iblk4 : iblk m c 4 t0_0 = (V m c main_arg4 : Vec Ideal S16x5632 .bf16) := by blk_ext! [iblk, idx t0_0]
/-- The block of the adapter's first factor is the whole array. -/
theorem iblk5 : iblk m c 5 t0_0 = (V m c main_arg5 : Vec Ideal S2048x8 .bf16) := by blk_ext! [iblk, idx t0_0]
/-- The block of the adapter's second factor is the whole array. -/
theorem iblk6 : iblk m c 6 t0_0 = (V m c main_arg6 : Vec Ideal S8x5632 .bf16) := by blk_ext! [iblk, idx t0_0]
/-- The block of the magnitudes is the whole array. -/
theorem iblk7 : iblk m c 7 t0_0 = (V m c main_v3 : Vec Ideal S1x5632 .f32) := by blk_ext! [iblk, idx t0_0]
/-- The block of the norms is the whole array. -/
theorem iblk8 : iblk m c 8 t0_0 = (V m c main_v4 : Vec Ideal S1x5632 .f32) := by blk_ext! [iblk, idx t0_0]

/-- The reference's first result is the input gradient. -/
theorem final_dx : (dats m 0 c).arrAt 9 cfg0.N = fun j : S1024x2048.Idx => (rin m c).dx (j 0) (j 1) := by
  refine (dats m 0 c).arrAt_eq_of_after_last 9 t0_0 (by decide +kernel) _ fun j => ?_
  blk_simp
  rw [after0_9, iblk0, iblk1, iblk2, iblk3, iblk4, iblk5, iblk6, iblk7, iblk8, out_dx]
  rfl

/-- The reference's second result is the gradient of the adapter's first factor. -/
theorem final_da : (dats m 0 c).arrAt 10 cfg0.N = fun j : S2048x8.Idx => (rin m c).da (j 0) (j 1) := by
  refine (dats m 0 c).arrAt_eq_of_after_last 10 t0_0 (by decide +kernel) _ fun j => ?_
  blk_simp
  rw [after0_10, iblk0, iblk1, iblk2, iblk3, iblk4, iblk5, iblk6, iblk7, iblk8, out_da]
  rfl

/-- The reference's third result is the gradient of the adapter's second factor. -/
theorem final_db : (dats m 0 c).arrAt 11 cfg0.N = fun j : S8x5632.Idx => (rin m c).db (j 0) (j 1) := by
  refine (dats m 0 c).arrAt_eq_of_after_last 11 t0_0 (by decide +kernel) _ fun j => ?_
  blk_simp
  rw [after0_11, iblk0, iblk1, iblk2, iblk3, iblk4, iblk5, iblk6, iblk7, iblk8, out_db]
  rfl

/-- The reference's fourth result is the gradient of the magnitudes. -/
theorem final_dm : (dats m 0 c).arrAt 12 cfg0.N = fun j : S1x5632.Idx => (rin m c).dm (j 1) := by
  refine (dats m 0 c).arrAt_eq_of_after_last 12 t0_0 (by decide +kernel) _ fun j => ?_
  blk_simp
  rw [after0_12, iblk0, iblk1, iblk2, iblk3, iblk4, iblk5, iblk6, iblk7, iblk8, out_dm]
  rfl

end Cert.Dora.Ref

end
-- ==== Proof.Same.lean ====
/-
  From arguments that agree, both programs read the same inputs: each reshapes its operands on the host, and every
  reshaped operand is read at the place where the argument's element went.
-/
module

public import proofs.«01_k».proof.Proof.KernelRun
public import proofs.«01_k».proof.Proof.RefRun
public import Idealize.ShloMosaic.Lib.Claim

@[expose] public section

set_option maxRecDepth 16384

noncomputable section

namespace Cert.Dora

open Idealize.ShloMosaic Idealize.ShloMosaic.TcCoe Idealize.SL.Sem
open scoped BigOperators

/-- The problem's inputs, read off the nine argument arrays; token `t` is row `t / 256`, place `t % 256`. -/
def argIn (dy : Vec Ideal ⟨3, ![4, 256, 5632]⟩ .bf16) (xq : Vec Ideal ⟨3, ![4, 256, 2048]⟩ .fp8e4m3)
    (xs : Vec Ideal ⟨2, ![4, 256]⟩ .f32) (wq : Vec Ideal ⟨2, ![1024, 5632]⟩ .i8) (ws : Vec Ideal ⟨2, ![16, 5632]⟩ .bf16)
    (a : Vec Ideal ⟨2, ![2048, 8]⟩ .bf16) (b : Vec Ideal ⟨2, ![8, 5632]⟩ .bf16) (mag nrm : Vec Ideal ⟨1, ![5632]⟩ .f32) :
    Inputs where
  dy t o := dy (ix3 ⟨t.val / 256, by omega⟩ ⟨t.val % 256, by omega⟩ o)
  xq t i := xq (ix3 ⟨t.val / 256, by omega⟩ ⟨t.val % 256, by omega⟩ i)
  xs t := xs (ix2 ⟨t.val / 256, by omega⟩ ⟨t.val % 256, by omega⟩)
  wq j o := wq (ix2 j o)
  ws g o := ws (ix2 g o)
  a i r := a (ix2 i r)
  b r o := b (ix2 r o)
  mag o := mag (ix1 o)
  nrm o := nrm (ix1 o)

/-! ## The kernel's reshaped operands -/

section Kernel

open Cert.KernelIdeal Cert.KernelIdeal.Gen

variable (m : (ℓ : Loc nD τ sig) → Buf (Elt Ideal) ℓ) (c : Dev nD)

/-- The output gradient, its two token axes merged. -/
theorem kernel_v0 (t : Fin 1024) (o : Fin 5632) : (V m c main_v0 : Vec Ideal S1024x5632 .bf16) (ix2 t o)
    = (m ((c.tc : Thread nD τ).loc main_arg0) : Vec Ideal S4x256x5632 .bf16) (ix3 ⟨t.val / 256, by omega⟩ ⟨t.val % 256, by omega⟩ o) := by
  entry_read
  pointwise

/-- The activations, their two token axes merged. -/
theorem kernel_v1 (t : Fin 1024) (i : Fin 2048) : (V m c main_v1 : Vec Ideal S1024x2048 .fp8e4m3) (ix2 t i)
    = (m ((c.tc : Thread nD τ).loc main_arg1) : Vec Ideal S4x256x2048 .fp8e4m3) (ix3 ⟨t.val / 256, by omega⟩ ⟨t.val % 256, by omega⟩ i) := by
  entry_read
  pointwise

/-- The magnitudes as one row. -/
theorem kernel_v2 (o : Fin 5632) : (V m c main_v2 : Vec Ideal S1x5632 .f32) (ix2 0 o)
    = (m ((c.tc : Thread nD τ).loc main_arg7) : Vec Ideal S5632 .f32) (ix1 o) := by
  entry_read
  pointwise

/-- The norms as one row. -/
theorem kernel_v3 (o : Fin 5632) : (V m c main_v3 : Vec Ideal S1x5632 .f32) (ix2 0 o)
    = (m ((c.tc : Thread nD τ).loc main_arg8) : Vec Ideal S5632 .f32) (ix1 o) := by
  entry_read
  pointwise

/-- The kernel's inputs are its arguments. -/
theorem kin_eq : kin m c = argIn (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := by
  unfold kin argIn
  rw [V_main_arg2, V_main_arg3, V_main_arg4, V_main_arg5, V_main_arg6]
  rw [Inputs.mk.injEq]
  exact ⟨funext fun t => funext fun o => kernel_v0 m c t o, funext fun t => funext fun o => kernel_v1 m c t o, rfl, rfl, rfl, rfl, rfl,
    funext fun o => kernel_v2 m c o, funext fun o => kernel_v3 m c o⟩

end Kernel

/-! ## The reference's -/

section Reference

open Cert.ReferenceIdeal Cert.ReferenceIdeal.Gen

variable (m : (ℓ : Loc nD τ sig) → Buf (Elt Ideal) ℓ) (c : Dev nD)

/-- The output gradient, its two token axes merged. -/
theorem reference_v0 (t : Fin 1024) (o : Fin 5632) : (V m c main_v0 : Vec Ideal S1024x5632 .bf16) (ix2 t o)
    = (m ((c.tc : Thread nD τ).loc main_arg0) : Vec Ideal S4x256x5632 .bf16) (ix3 ⟨t.val / 256, by omega⟩ ⟨t.val % 256, by omega⟩ o) := by
  entry_read
  pointwise

/-- The activations, their two token axes merged. -/
theorem reference_v1 (t : Fin 1024) (i : Fin 2048) : (V m c main_v1 : Vec Ideal S1024x2048 .fp8e4m3) (ix2 t i)
    = (m ((c.tc : Thread nD τ).loc main_arg1) : Vec Ideal S4x256x2048 .fp8e4m3) (ix3 ⟨t.val / 256, by omega⟩ ⟨t.val % 256, by omega⟩ i) := by
  entry_read
  pointwise

/-- The scales as one column. -/
theorem reference_v2 (t : Fin 1024) : (V m c main_v2 : Vec Ideal S1024x1 .f32) (ix2 t 0)
    = (m ((c.tc : Thread nD τ).loc main_arg2) : Vec Ideal S4x256 .f32) (ix2 ⟨t.val / 256, by omega⟩ ⟨t.val % 256, by omega⟩) := by
  entry_read
  pointwise

/-- The magnitudes as one row. -/
theorem reference_v3 (o : Fin 5632) : (V m c main_v3 : Vec Ideal S1x5632 .f32) (ix2 0 o)
    = (m ((c.tc : Thread nD τ).loc main_arg7) : Vec Ideal S5632 .f32) (ix1 o) := by
  entry_read
  pointwise

/-- The norms as one row. -/
theorem reference_v4 (o : Fin 5632) : (V m c main_v4 : Vec Ideal S1x5632 .f32) (ix2 0 o)
    = (m ((c.tc : Thread nD τ).loc main_arg8) : Vec Ideal S5632 .f32) (ix1 o) := by
  entry_read
  pointwise

/-- The reference's inputs are its arguments. -/
theorem rin_eq : Ref.rin m c = argIn (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := by
  unfold Ref.rin refIn argIn
  rw [V_main_arg3, V_main_arg4, V_main_arg5, V_main_arg6]
  rw [Inputs.mk.injEq]
  exact ⟨funext fun t => funext fun o => reference_v0 m c t o, funext fun t => funext fun o => reference_v1 m c t o,
    funext fun t => reference_v2 m c t, rfl, rfl, rfl, rfl, funext fun o => reference_v3 m c o, funext fun o => reference_v4 m c o⟩

end Reference

end Cert.Dora

end
-- ==== Proof.Division.lean ====
/-
  Dividing a sum once by a positive number is dividing its summands: over the extended reals the inverse of a
  positive number is not negative and not infinite, so multiplying by it distributes over any sum.
-/
module

public import proofs.«01_k».proof.Proof.Spec

@[expose] public section

noncomputable section

namespace Cert.Dora

open Idealize.ShloMosaic
open scoped BigOperators

/-- Multiplying by a number that is neither negative nor infinite distributes over a finite sum. -/
theorem sum_mul_of_nonneg {ι : Type} (s : Finset ι) (f : ι → EReal) (z : EReal) (h0 : 0 ≤ z) (h1 : z ≠ ⊤) :
    (∑ k ∈ s, f k) * z = ∑ k ∈ s, f k * z := by
  classical
  induction s using Finset.induction_on with
  | empty => simp
  | insert k s hk ih => rw [Finset.sum_insert hk, Finset.sum_insert hk, EReal.right_distrib_of_nonneg_of_ne_top h0 h1, ih]

/-- The inverse of a positive number is not infinite. -/
theorem inv_ne_top (z : EReal) (h : 0 < z) : z⁻¹ ≠ ⊤ := by
  induction z using EReal.rec with
  | bot => simp
  | top => simp
  | coe x => rw [← EReal.coe_inv]; exact EReal.coe_ne_top _

/-- A quotient by a positive number is the product with its inverse. -/
theorem div_of_pos (x z : EReal) (h : 0 < z) : Ideal.div x z = x * z⁻¹ := by
  unfold Ideal.div
  exact if_neg h.ne'

/-- A sum over a positive number is the sum of the quotients. -/
theorem sum_div {ι : Type} (s : Finset ι) (f : ι → EReal) (z : EReal) (h : 0 < z) :
    Ideal.div (∑ k ∈ s, f k) z = ∑ k ∈ s, Ideal.div (f k) z := by
  rw [div_of_pos _ _ h, sum_mul_of_nonneg s f _ (EReal.inv_nonneg_of_nonneg h.le) (inv_ne_top z h)]
  exact Finset.sum_congr rfl fun k _ => (div_of_pos _ _ h).symm

/-- At a column of positive norm, the gradient of the magnitudes divided once is the one divided token by token. -/
theorem dmOnce_eq (I : Inputs) (o : Fin 5632) (h : 0 < I.nrm o) : I.dmOnce o = I.dm o :=
  sum_div _ _ _ h

end Cert.Dora

end
-- ==== Proof.Mask.lean ====
/-
  The mask `positive_norm`: set at every index of the first three results, and at the columns of the fourth whose
  norm is positive.
-/
module

public import proofs.«01_k».proof.On_positive_norm
public import proofs.«01_k».proof.Proof.Gen.KernelIdeal
public import Idealize.ShloMosaic.Lib.Pointwise

@[expose] public section

noncomputable section

namespace Cert.On_positive_norm

open Idealize.ShloMosaic

/-- The shape relations the mask's operations ask for. -/
theorem facts : Facts where
  bcast_S_S1024x2048 := by decide
  bcast_S_S2048x8 := by decide
  bcast_S_S8x5632 := by decide
  bcast_S_S5632 := by decide
  shapeCasts_S5632_S1x5632 := by decide

variable [Facts]

/-- Where the fourth array of the mask is set, the column's norm is positive. -/
theorem norm_pos (a0 : FVec Ideal S4x256x5632 .bf16) (a1 : FVec Ideal S4x256x2048 .fp8e4m3) (a2 : FVec Ideal S4x256 .f32)
    (a3 : IVec S1024x5632 8) (a4 : FVec Ideal S16x5632 .bf16) (a5 : FVec Ideal S2048x8 .bf16) (a6 : FVec Ideal S8x5632 .bf16)
    (a7 a8 : FVec Ideal S5632 .f32) (o : Fin 5632)
    (h : (fn a0 a1 a2 a3 a4 a5 a6 a7 a8).2.2.2 (ix2 (0 : Fin 1) o) = 1#1) : (0 : EReal) < a8 (ix1 o) := by
  have e : (fn a0 a1 a2 a3 a4 a5 a6 a7 a8).2.2.2 (ix2 (0 : Fin 1) o)
      = if (0 : EReal) < a8 (ix1 o) then 1#1 else 0#1 := by
    pointwise [fn]
    by_cases hp : (0 : EReal) < a8 (ix1 o)
    · rw [if_pos hp, decide_eq_true hp]; rfl
    · rw [if_neg hp, decide_eq_false hp]; rfl
  rw [e] at h
  by_contra hn
  rw [if_neg hn] at h
  exact absurd h (by decide)

end Cert.On_positive_norm

end
-- ==== Proof.Equation.lean ====
/-
  The value claim: from memories that agree on the arguments, the kernel's results and the reference's are equal
  wherever the mask is set.
-/
module

public import proofs.«01_k».proof.Proof.Same
public import proofs.«01_k».proof.Proof.Division
public import proofs.«01_k».proof.Proof.Mask
public import proofs.«01_k».proof.Defs

@[expose] public section

set_option maxRecDepth 16384

noncomputable section

namespace Cert.Dora

open Idealize.ShloMosaic Idealize.SL.Sem

attribute [local instance] Cert.On_positive_norm.facts

/-- An index of a one-row array is in row 0. -/
theorem row_zero (j : (⟨2, ![1, 5632]⟩ : Shape).Idx) : j = ix2 (0 : Fin 1) (j 1) :=
  (eq_ix2 j).trans (congrArg (ix2 · (j 1)) (Subsingleton.elim (α := Fin 1) _ _))

/-- Both programs run and end with unchanged arguments, and where the mask is set their results are equal: the
    first three at every index, the gradient of the magnitudes at the columns of positive norm. -/
theorem algebraic : Cert.algebraic_KernelIdeal_ReferenceIdeal_on_positive_norm := by
  intro m g m' g' _ hagree
  have same (c : Dev Cert.KernelIdeal.nD) : Ref.rin m' c = kin m c := by
    rw [rin_eq, kin_eq]
    obtain ⟨h0, h1, h2, h3, h4, h5, h6, h7, h8⟩ := hagree c
    rw [h0, h1, h2, h3, h4, h5, h6, h7, h8]
  refine ⟨fun c => Cert.KernelIdeal.Value.G9 m c, fun c => Cert.KernelIdeal.Value.G10 m c,
    fun c => Cert.KernelIdeal.Value.G11 m c, fun c => Cert.KernelIdeal.Value.G12 m c, ?_, ?_⟩
  · exact (θ_run Cert.KernelIdeal.defs _ _).mono
      (fun _ h c => ⟨fun i _ => congrFun (h c).1 i, fun i _ => congrFun (h c).2.1 i, fun i _ => congrFun (h c).2.2.1 i,
        fun i _ => congrFun (h c).2.2.2.1 i, (h c).2.2.2.2⟩)
      (Cert.KernelIdeal.Value.run (F := Ideal) m g)
  · refine (θ_run Cert.ReferenceIdeal.defs _ _).mono
      (fun _ h c => ⟨fun i _ => (congrFun ((h c).1.trans (Ref.final_dx m' c)) i).trans ?_,
        fun i _ => (congrFun ((h c).2.1.trans (Ref.final_da m' c)) i).trans ?_,
        fun i _ => (congrFun ((h c).2.2.1.trans (Ref.final_db m' c)) i).trans ?_,
        fun i hi => (congrFun ((h c).2.2.2.1.trans (Ref.final_dm m' c)) i).trans ?_, (h c).2.2.2.2⟩)
      (Cert.ReferenceIdeal.Value.run_blocks (F := Ideal) m' g')
    · rw [same c]
      exact (kernel_dx m c (i 0) (i 1)).symm.trans (congrArg _ (eq_ix2 i).symm)
    · rw [same c]
      exact (kernel_da m c (i 0) (i 1)).symm.trans (congrArg _ (eq_ix2 i).symm)
    · rw [same c]
      exact (kernel_db m c (i 0) (i 1)).symm.trans (congrArg _ (eq_ix2 i).symm)
    · rw [same c]
      rw [row_zero i] at hi
      have hp : 0 < (kin m c).nrm (i 1) := by
        rw [kin_eq]
        exact Cert.On_positive_norm.norm_pos _ _ _ _ _ _ _ _ _ (i 1) hi
      rw [← dmOnce_eq (kin m c) (i 1) hp]
      exact (kernel_dm m c (i 1)).symm.trans (congrArg _ (row_zero i).symm)

end Cert.Dora

end
-- ==== Proof.lean ====
/-
  The certificate's claim, assembled: the three programs run, leave their arguments as they were and end with every
  semaphore at zero; the kernel read over the extended reals is the kernel's own text; and there it computes what the
  reference computes, at every index of the first three results and at the columns of positive norm of the fourth.
-/
module

public import proofs.«01_k».proof.Proof.Equation
public import proofs.«01_k».proof.Proof.Gen.Kernel.Frame
public import proofs.«01_k».proof.Proof.Gen.KernelIdeal.Frame
public import proofs.«01_k».proof.Proof.Gen.ReferenceIdeal.Frame
public import proofs.«01_k».proof.Defs

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.On_positive_norm.facts,
    fun m g _ => Cert.Kernel.Gen.frame m g, fun m g _ => Cert.KernelIdeal.Gen.frame m g,
    fun m g _ => Cert.ReferenceIdeal.Gen.frame m g, trivial, Cert.Dora.algebraic⟩

end Cert.Proof

end
